-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S4096x4096x2 : Shape := ⟨3, ![4096, 4096, 2]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel

variable [Facts]

def fn {F : FTy → Type} [FloatOps F] (main_arg0 : FVec F S4096x4096x2 .f32) : IVec S_ 1 :=
  let main_cst : FVec F S_ .f32 := constant S_ .f32 0x00000000#32
  let main_v0 : FVec F S4096x4096x2 .f32 := broadcastInDim S4096x4096x2 ![] bcast_S_S4096x4096x2 main_cst
  let main_v1 : IVec S4096x4096x2 1 := cmpf .oge main_arg0 main_v0
  let main_c : IVec S_ 1 := constantI S_ 1 1#1
  let main_v2 : IVec S_ 1 := (fun x v => Host.reduce IntOp.andi x v reducesTo_S4096x4096x2_S_d0_1_2 h_S_) main_v1 main_c
  main_v2
-- ==== Kernel.lean ====
abbrev S4096x4096x2 : Shape := ⟨3, ![4096, 4096, 2]⟩
abbrev S64 : Shape := ⟨1, ![64]⟩
abbrev S4096x32x128x2 : Shape := ⟨4, ![4096, 32, 128, 2]⟩
abbrev S4096x32x2x128 : Shape := ⟨4, ![4096, 32, 2, 128]⟩
abbrev S4096x64x128 : Shape := ⟨3, ![4096, 64, 128]⟩
abbrev S4096x4096 : Shape := ⟨2, ![4096, 4096]⟩
abbrev S512x8x128 : Shape := ⟨3, ![512, 8, 128]⟩
abbrev S1 : Shape := ⟨1, ![1]⟩
abbrev S512x512 : Shape := ⟨2, ![512, 512]⟩
abbrev S512x128 : Shape := ⟨2, ![512, 128]⟩
abbrev S512x1x128 : Shape := ⟨3, ![512, 1, 128]⟩
abbrev S128x128 : Shape := ⟨2, ![128, 128]⟩
abbrev S128x1x128 : Shape := ⟨3, ![128, 1, 128]⟩
abbrev S256x128 : Shape := ⟨2, ![256, 128]⟩
abbrev S256x1x128 : Shape := ⟨3, ![256, 1, 128]⟩
abbrev S384x128 : Shape := ⟨2, ![384, 128]⟩
abbrev S384x1x128 : Shape := ⟨3, ![384, 1, 128]⟩

abbrev nBuf : Space → Nat
  | .hbm => 5
  | .vmem => 5
  | .smem => 3
  | _ => 0

abbrev bufTy : (tb : Table) → Fin (tcTables nBuf tb) → BufTy
  | .hbm, ⟨0, _⟩ => ⟨S4096x4096x2, .f32⟩
  | .hbm, ⟨1, _⟩ => ⟨S4096x32x128x2, .f32⟩
  | .hbm, ⟨2, _⟩ => ⟨S4096x32x2x128, .f32⟩
  | .hbm, ⟨3, _⟩ => ⟨S4096x64x128, .f32⟩
  | .hbm, ⟨4, _⟩ => ⟨S4096x4096, .i32⟩
  | .local _ .vmem, ⟨0, _⟩ => ⟨S512x8x128, .f32⟩
  | .local _ .vmem, ⟨1, _⟩ => ⟨S512x8x128, .f32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .smem, ⟨0, _⟩ => ⟨S64, .i32⟩
  | .local _ .smem, ⟨1, _⟩ => ⟨S64, .i32⟩
  | .local _ .smem, ⟨2, _⟩ => ⟨S64, .i32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v5 : BitVec 32) : BitVec 1 :=
  let c0_i32_3 : BitVec 32 := 0#32
  let v13 : BitVec 1 := Scalar.cmpi .eq v5 c0_i32_3
  let v14 : BitVec 32 := Scalar.extui v13
  let c0_i32_4 : BitVec 32 := 0#32
  let v15 : BitVec 1 := Scalar.cmpi .ne v14 c0_i32_4
  v15

def k0_cond4 (v5 : BitVec 32) : BitVec 1 :=
  let c1_i32_5 : BitVec 32 := 1#32
  let v16 : BitVec 1 := Scalar.cmpi .eq v5 c1_i32_5
  let v17 : BitVec 32 := Scalar.extui v16
  let c0_i32_6 : BitVec 32 := 0#32
  let v18 : BitVec 1 := Scalar.cmpi .ne v17 c0_i32_6
  v18

def k0_cond5 (v5 : BitVec 32) : BitVec 1 :=
  let c2_i32 : BitVec 32 := 2#32
  let v19 : BitVec 1 := Scalar.cmpi .eq v5 c2_i32
  let v20 : BitVec 32 := Scalar.extui v19
  let c0_i32_7 : BitVec 32 := 0#32
  let v21 : BitVec 1 := Scalar.cmpi .ne v20 c0_i32_7
  v21

def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let v2 : Index := Scalar.indexCast arg0
  let v3 : BitVec 32 := pf.at 1 (Rect.unit (s := S64) ![v2.toNat] S1.size (k0_off1_inb i)) numel1_S1
  let v4 : BitVec 32 := Scalar.minsi v1 v3
  let v5 : Index := Scalar.indexCast arg0
  let v6 : BitVec 32 := pf.at 0 (Rect.unit (s := S64) ![v5.toNat] S1.size (k0_off1_inb i)) numel1_S1
  let v7 : Index := Scalar.indexCast arg0
  let v8 : BitVec 32 := pf.at 1 (Rect.unit (s := S64) ![v7.toNat] S1.size (k0_off1_inb i)) numel1_S1
  let v9 : BitVec 32 := Scalar.maxsi v6 v8
  let c0_i32 : BitVec 32 := 0#32
  let c0_i32_0 : BitVec 32 := 0#32
  ![v4.toNat, v9.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let v2 : Index := Scalar.indexCast arg0
  let v3 : BitVec 32 := pf.at 1 (Rect.unit (s := S64) ![v2.toNat] S1.size (k0_off1_inb i)) numel1_S1
  let c0_i32 : BitVec 32 := 0#32
  ![v1.toNat, v3.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096x2 : Shape := ⟨3, ![4096, 4096, 2]⟩
abbrev S16777216x2 : Shape := ⟨2, ![16777216, 2]⟩
abbrev S_ : Shape := ⟨0, ![]⟩
abbrev S33554432 : Shape := ⟨1, ![33554432]⟩
abbrev S16777216 : Shape := ⟨1, ![16777216]⟩
abbrev S16777216x1 : Shape := ⟨2, ![16777216, 1]⟩
abbrev S4096x4096 : Shape := ⟨2, ![4096, 4096]⟩

abbrev nBuf : Space → Nat
  | .hbm => 299
  | .vmem => 0
  | .smem => 0
  | _ => 0

abbrev hbmTy0_0 (i : Nat) : BufTy := match i % 128 with
  | 0 => ⟨S4096x4096x2, .f32⟩
  | 1 => ⟨S16777216x2, .f32⟩
  | 2 => ⟨S_, .f32⟩
  | 3 => ⟨S16777216x2, .f32⟩
  | 4 => ⟨S16777216x2, .f32⟩
  | 5 => ⟨S16777216x2, .f32⟩
  | 6 => ⟨S33554432, .i32⟩
  | 7 => ⟨S16777216x2, .i32⟩
  | 8 => ⟨S_, .i32⟩
  | 9 => ⟨S16777216x2, .i32⟩
  | 10 => ⟨S_, .i32⟩
  | 11 => ⟨S16777216x2, .i32⟩
  | 12 => ⟨S16777216x2, .i32⟩
  | 13 => ⟨S_, .i32⟩
  | 14 => ⟨S16777216x2, .i32⟩
  | 15 => ⟨S16777216x2, .i32⟩
  | 16 => ⟨S16777216x2, .i32⟩
  | 17 => ⟨S_, .i32⟩
  | 18 => ⟨S16777216x2, .i32⟩
  | 19 => ⟨S16777216x2, .i32⟩
  | 20 => ⟨S_, .i32⟩
  | 21 => ⟨S16777216x2, .i32⟩
  | 22 => ⟨S16777216x2, .i32⟩
  | 23 => ⟨S16777216x2, .i32⟩
  | 24 => ⟨S16777216x2, .i32⟩
  | 25 => ⟨S16777216x2, .i32⟩
  | 26 => ⟨S_, .i32⟩
  | 27 => ⟨S16777216x2, .i32⟩
  | 28 => ⟨S16777216x2, .i32⟩
  | 29 => ⟨S_, .i32⟩
  | 30 => ⟨S16777216x2, .i32⟩
  | 31 => ⟨S16777216x2, .i32⟩
  | 32 => ⟨S16777216x2, .i32⟩
  | 33 => ⟨S16777216x2, .i32⟩
  | 34 => ⟨S16777216x2, .i32⟩
  | 35 => ⟨S_, .i32⟩
  | 36 => ⟨S16777216x2, .i32⟩
  | 37 => ⟨S16777216x2, .i32⟩
  | 38 => ⟨S_, .i32⟩
  | 39 => ⟨S16777216x2, .i32⟩
  | 40 => ⟨S16777216x2, .i32⟩
  | 41 => ⟨S16777216x2, .i32⟩
  | 42 => ⟨S16777216x2, .i32⟩
  | 43 => ⟨S16777216x2, .i32⟩
  | 44 => ⟨S_, .i32⟩
  | 45 => ⟨S16777216x2, .i32⟩
  | 46 => ⟨S16777216x2, .i32⟩
  | 47 => ⟨S_, .i32⟩
  | 48 => ⟨S16777216x2, .i32⟩
  | 49 => ⟨S16777216x2, .i32⟩
  | 50 => ⟨S16777216x2, .i32⟩
  | 51 => ⟨S16777216x2, .i32⟩
  | 52 => ⟨S_, .i32⟩
  | 53 => ⟨S16777216x2, .i32⟩
  | 54 => ⟨S16777216x2, .i32⟩
  | 55 => ⟨S_, .i32⟩
  | 56 => ⟨S16777216x2, .i32⟩
  | 57 => ⟨S16777216x2, .i32⟩
  | 58 => ⟨S_, .i32⟩
  | 59 => ⟨S16777216x2, .i32⟩
  | 60 => ⟨S16777216x2, .i32⟩
  | 61 => ⟨S16777216x2, .i32⟩
  | 62 => ⟨S_, .i32⟩
  | 63 => ⟨S16777216x2, .i32⟩
  | 64 => ⟨S16777216x2, .i32⟩
  | 65 => ⟨S_, .i32⟩
  | 66 => ⟨S16777216x2, .i32⟩
  | 67 => ⟨S16777216x2, .i32⟩
  | 68 => ⟨S16777216x2, .i32⟩
  | 69 => ⟨S16777216x2, .i32⟩
  | 70 => ⟨S16777216x2, .i32⟩
  | 71 => ⟨S_, .i32⟩
  | 72 => ⟨S16777216x2, .i32⟩
  | 73 => ⟨S16777216x2, .i32⟩
  | 74 => ⟨S_, .i32⟩
  | 75 => ⟨S16777216x2, .i32⟩
  | 76 => ⟨S16777216x2, .i32⟩
  | 77 => ⟨S16777216x2, .i32⟩
  | 78 => ⟨S16777216x2, .i32⟩
  | 79 => ⟨S16777216x2, .i32⟩
  | 80 => ⟨S_, .i32⟩
  | 81 => ⟨S16777216x2, .i32⟩
  | 82 => ⟨S16777216x2, .i32⟩
  | 83 => ⟨S_, .i32⟩
  | 84 => ⟨S16777216x2, .i32⟩
  | 85 => ⟨S16777216x2, .i32⟩
  | 86 => ⟨S16777216x2, .i32⟩
  | 87 => ⟨S16777216x2, .i32⟩
  | 88 => ⟨S16777216x2, .i32⟩
  | 89 => ⟨S_, .i32⟩
  | 90 => ⟨S16777216x2, .i32⟩
  | 91 => ⟨S16777216x2, .i32⟩
  | 92 => ⟨S_, .i32⟩
  | 93 => ⟨S16777216x2, .i32⟩
  | 94 => ⟨S16777216x2, .i32⟩
  | 95 => ⟨S16777216x2, .i32⟩
  | 96 => ⟨S16777216x2, .i32⟩
  | 97 => ⟨S_, .i32⟩
  | 98 => ⟨S16777216x2, .i32⟩
  | 99 => ⟨S16777216x2, .i32⟩
  | 100 => ⟨S_, .i32⟩
  | 101 => ⟨S16777216x2, .i32⟩
  | 102 => ⟨S16777216x2, .i32⟩
  | 103 => ⟨S_, .i32⟩
  | 104 => ⟨S16777216x2, .i32⟩
  | 105 => ⟨S16777216x2, .i32⟩
  | 106 => ⟨S16777216x2, .i32⟩
  | 107 => ⟨S_, .i32⟩
  | 108 => ⟨S16777216x2, .i32⟩
  | 109 => ⟨S16777216x2, .i32⟩
  | 110 => ⟨S_, .i32⟩
  | 111 => ⟨S16777216x2, .i32⟩
  | 112 => ⟨S16777216x2, .i32⟩
  | 113 => ⟨S16777216x2, .i32⟩
  | 114 => ⟨S16777216x2, .i32⟩
  | 115 => ⟨S16777216x2, .i32⟩
  | 116 => ⟨S_, .i32⟩
  | 117 => ⟨S16777216x2, .i32⟩
  | 118 => ⟨S16777216x2, .i32⟩
  | 119 => ⟨S_, .i32⟩
  | 120 => ⟨S16777216x2, .i32⟩
  | 121 => ⟨S16777216x2, .i32⟩
  | 122 => ⟨S16777216x2, .i32⟩
  | 123 => ⟨S16777216x2, .i32⟩
  | 124 => ⟨S16777216x2, .i32⟩
  | 125 => ⟨S_, .i32⟩
  | 126 => ⟨S16777216x2, .i32⟩
  | 127 => ⟨S16777216x2, .i32⟩
  | _ => ⟨S4096x4096x2, .f32⟩

abbrev hbmTy0_1 (i : Nat) : BufTy := match i % 128 with
  | 0 => ⟨S_, .i32⟩
  | 1 => ⟨S16777216x2, .i32⟩
  | 2 => ⟨S16777216x2, .i32⟩
  | 3 => ⟨S16777216x2, .i32⟩
  | 4 => ⟨S16777216x2, .i32⟩
  | 5 => ⟨S16777216x2, .i32⟩
  | 6 => ⟨S_, .i32⟩
  | 7 => ⟨S16777216x2, .i32⟩
  | 8 => ⟨S16777216x2, .i32⟩
  | 9 => ⟨S_, .i32⟩
  | 10 => ⟨S16777216x2, .i32⟩
  | 11 => ⟨S16777216x2, .i32⟩
  | 12 => ⟨S16777216x2, .i32⟩
  | 13 => ⟨S16777216x2, .i32⟩
  | 14 => ⟨S_, .i32⟩
  | 15 => ⟨S16777216x2, .i32⟩
  | 16 => ⟨S16777216x2, .i32⟩
  | 17 => ⟨S_, .i32⟩
  | 18 => ⟨S16777216x2, .i32⟩
  | 19 => ⟨S16777216x2, .i32⟩
  | 20 => ⟨S_, .i32⟩
  | 21 => ⟨S16777216x2, .i32⟩
  | 22 => ⟨S16777216x2, .i32⟩
  | 23 => ⟨S16777216x2, .i32⟩
  | 24 => ⟨S_, .i32⟩
  | 25 => ⟨S16777216x2, .i32⟩
  | 26 => ⟨S16777216x2, .i32⟩
  | 27 => ⟨S_, .i32⟩
  | 28 => ⟨S16777216x2, .i32⟩
  | 29 => ⟨S16777216x2, .i32⟩
  | 30 => ⟨S16777216x2, .i32⟩
  | 31 => ⟨S16777216x2, .i32⟩
  | 32 => ⟨S16777216x2, .i32⟩
  | 33 => ⟨S_, .i32⟩
  | 34 => ⟨S16777216x2, .i32⟩
  | 35 => ⟨S16777216x2, .i32⟩
  | 36 => ⟨S_, .i32⟩
  | 37 => ⟨S16777216x2, .i32⟩
  | 38 => ⟨S16777216x2, .i32⟩
  | 39 => ⟨S16777216x2, .i32⟩
  | 40 => ⟨S16777216x2, .i32⟩
  | 41 => ⟨S16777216x2, .i32⟩
  | 42 => ⟨S_, .i32⟩
  | 43 => ⟨S16777216x2, .i32⟩
  | 44 => ⟨S16777216x2, .i32⟩
  | 45 => ⟨S_, .i32⟩
  | 46 => ⟨S16777216x2, .i32⟩
  | 47 => ⟨S16777216x2, .i32⟩
  | 48 => ⟨S16777216x2, .i32⟩
  | 49 => ⟨S16777216x2, .i32⟩
  | 50 => ⟨S16777216x2, .i32⟩
  | 51 => ⟨S_, .i32⟩
  | 52 => ⟨S16777216x2, .i32⟩
  | 53 => ⟨S16777216x2, .i32⟩
  | 54 => ⟨S_, .i32⟩
  | 55 => ⟨S16777216x2, .i32⟩
  | 56 => ⟨S16777216x2, .i32⟩
  | 57 => ⟨S16777216x2, .i32⟩
  | 58 => ⟨S16777216x2, .i32⟩
  | 59 => ⟨S_, .i32⟩
  | 60 => ⟨S16777216x2, .i32⟩
  | 61 => ⟨S16777216x2, .i32⟩
  | 62 => ⟨S_, .i32⟩
  | 63 => ⟨S16777216x2, .i32⟩
  | 64 => ⟨S16777216x2, .i32⟩
  | 65 => ⟨S_, .i32⟩
  | 66 => ⟨S16777216x2, .i32⟩
  | 67 => ⟨S16777216x2, .i32⟩
  | 68 => ⟨S16777216x2, .i32⟩
  | 69 => ⟨S_, .i32⟩
  | 70 => ⟨S16777216x2, .i32⟩
  | 71 => ⟨S16777216x2, .i32⟩
  | 72 => ⟨S_, .i32⟩
  | 73 => ⟨S16777216x2, .i32⟩
  | 74 => ⟨S16777216x2, .i32⟩
  | 75 => ⟨S16777216x2, .i32⟩
  | 76 => ⟨S16777216x2, .i32⟩
  | 77 => ⟨S16777216x2, .i32⟩
  | 78 => ⟨S_, .i32⟩
  | 79 => ⟨S16777216x2, .i32⟩
  | 80 => ⟨S16777216x2, .i32⟩
  | 81 => ⟨S_, .i32⟩
  | 82 => ⟨S16777216x2, .i32⟩
  | 83 => ⟨S16777216x2, .i32⟩
  | 84 => ⟨S16777216x2, .i32⟩
  | 85 => ⟨S16777216x2, .i32⟩
  | 86 => ⟨S16777216x2, .i32⟩
  | 87 => ⟨S_, .i32⟩
  | 88 => ⟨S16777216x2, .i32⟩
  | 89 => ⟨S16777216x2, .i32⟩
  | 90 => ⟨S_, .i32⟩
  | 91 => ⟨S16777216x2, .i32⟩
  | 92 => ⟨S16777216x2, .i32⟩
  | 93 => ⟨S16777216x2, .i32⟩
  | 94 => ⟨S16777216x2, .i32⟩
  | 95 => ⟨S16777216x2, .i32⟩
  | 96 => ⟨S_, .i32⟩
  | 97 => ⟨S16777216x2, .i32⟩
  | 98 => ⟨S16777216x2, .i32⟩
  | 99 => ⟨S_, .i32⟩
  | 100 => ⟨S16777216x2, .i32⟩
  | 101 => ⟨S16777216x2, .i32⟩
  | 102 => ⟨S16777216x2, .i32⟩
  | 103 => ⟨S16777216x2, .i32⟩
  | 104 => ⟨S_, .i32⟩
  | 105 => ⟨S16777216x2, .i32⟩
  | 106 => ⟨S16777216x2, .i32⟩
  | 107 => ⟨S_, .i32⟩
  | 108 => ⟨S16777216x2, .i32⟩
  | 109 => ⟨S16777216x2, .i32⟩
  | 110 => ⟨S_, .i32⟩
  | 111 => ⟨S16777216x2, .i32⟩
  | 112 => ⟨S16777216x2, .i32⟩
  | 113 => ⟨S16777216x2, .i32⟩
  | 114 => ⟨S_, .i32⟩
  | 115 => ⟨S16777216x2, .i32⟩
  | 116 => ⟨S16777216x2, .i32⟩
  | 117 => ⟨S_, .i32⟩
  | 118 => ⟨S16777216x2, .i32⟩
  | 119 => ⟨S16777216x2, .i32⟩
  | 120 => ⟨S16777216x2, .f32⟩
  | 121 => ⟨S_, .f32⟩
  | 122 => ⟨S16777216x2, .f32⟩
  | 123 => ⟨S16777216x2, .f32⟩
  | 124 => ⟨S_, .f32⟩
  | 125 => ⟨S16777216x2, .f32⟩
  | 126 => ⟨S16777216x2, .f32⟩
  | 127 => ⟨S_, .f32⟩
  | _ => ⟨S4096x4096x2, .f32⟩

abbrev hbmTy0_2 (i : Nat) : BufTy := match i % 128 with
  | 0 => ⟨S16777216x2, .f32⟩
  | 1 => ⟨S16777216x2, .f32⟩
  | 2 => ⟨S_, .f32⟩
  | 3 => ⟨S16777216x2, .f32⟩
  | 4 => ⟨S16777216x2, .f32⟩
  | 5 => ⟨S16777216x2, .f32⟩
  | 6 => ⟨S16777216x2, .f32⟩
  | 7 => ⟨S16777216x2, .f32⟩
  | 8 => ⟨S16777216x2, .f32⟩
  | 9 => ⟨S16777216x2, .f32⟩
  | 10 => ⟨S16777216x2, .i32⟩
  | 11 => ⟨S_, .f32⟩
  | 12 => ⟨S16777216, .f32⟩
  | 13 => ⟨S16777216x1, .f32⟩
  | 14 => ⟨S16777216x2, .f32⟩
  | 15 => ⟨S16777216x2, .i1⟩
  | 16 => ⟨S_, .i32⟩
  | 17 => ⟨S_, .i32⟩
  | 18 => ⟨S16777216x2, .i32⟩
  | 19 => ⟨S16777216x2, .i32⟩
  | 20 => ⟨S_, .i32⟩
  | 21 => ⟨S16777216, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S4096x4096, .i32⟩
  | 28 => ⟨S4096x4096, .i1⟩
  | 29 => ⟨S_, .i32⟩
  | 30 => ⟨S4096x4096, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S4096x4096, .i32⟩
  | 37 => ⟨S4096x4096, .i1⟩
  | 38 => ⟨S_, .i32⟩
  | 39 => ⟨S4096x4096, .i32⟩
  | 40 => ⟨S4096x4096, .i32⟩
  | 41 => ⟨S4096x4096, .i32⟩
  | 42 => ⟨S4096x4096, .i32⟩
  | _ => ⟨S4096x4096x2, .f32⟩

abbrev hbmTy (i : Nat) : BufTy := match i / 128 with
  | 0 => hbmTy0_0 i
  | 1 => hbmTy0_1 i
  | 2 => hbmTy0_2 i
  | _ => ⟨S4096x4096x2, .f32⟩

abbrev bufTy : (tb : Table) → Fin (tcTables nBuf tb) → BufTy
  | .hbm, ⟨i, _⟩ => hbmTy i
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_8 : Ref sig .tc := ⟨.hbm, 44, rfl⟩
abbrev main_v33 : Ref sig .tc := ⟨.hbm, 45, rfl⟩
abbrev main_v34 : Ref sig .tc := ⟨.hbm, 46, rfl⟩
abbrev main_c_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_10 : Ref sig .tc := ⟨.hbm, 52, rfl⟩
abbrev main_v39 : Ref sig .tc := ⟨.hbm, 53, rfl⟩
abbrev main_v40 : Ref sig .tc := ⟨.hbm, 54, rfl⟩
abbrev main_c_11 : Ref sig .tc := ⟨.hbm, 55, rfl⟩
abbrev main_v41 : Ref sig .tc := ⟨.hbm, 56, rfl⟩
abbrev main_v42 : Ref sig .tc := ⟨.hbm, 57, rfl⟩
abbrev main_c_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_13 : Ref sig .tc := ⟨.hbm, 62, rfl⟩
abbrev main_v46 : Ref sig .tc := ⟨.hbm, 63, rfl⟩
abbrev main_v47 : Ref sig .tc := ⟨.hbm, 64, rfl⟩
abbrev main_c_14 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_15 : Ref sig .tc := ⟨.hbm, 71, rfl⟩
abbrev main_v53 : Ref sig .tc := ⟨.hbm, 72, rfl⟩
abbrev main_v54 : Ref sig .tc := ⟨.hbm, 73, rfl⟩
abbrev main_c_16 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_17 : Ref sig .tc := ⟨.hbm, 80, rfl⟩
abbrev main_v60 : Ref sig .tc := ⟨.hbm, 81, rfl⟩
abbrev main_v61 : Ref sig .tc := ⟨.hbm, 82, rfl⟩
abbrev main_c_18 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_19 : Ref sig .tc := ⟨.hbm, 89, rfl⟩
abbrev main_v67 : Ref sig .tc := ⟨.hbm, 90, rfl⟩
abbrev main_v68 : Ref sig .tc := ⟨.hbm, 91, rfl⟩
abbrev main_c_20 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_21 : Ref sig .tc := ⟨.hbm, 97, rfl⟩
abbrev main_v73 : Ref sig .tc := ⟨.hbm, 98, rfl⟩
abbrev main_v74 : Ref sig .tc := ⟨.hbm, 99, rfl⟩
abbrev main_c_22 : Ref sig .tc := ⟨.hbm, 100, rfl⟩
abbrev main_v75 : Ref sig .tc := ⟨.hbm, 101, rfl⟩
abbrev main_v76 : Ref sig .tc := ⟨.hbm, 102, rfl⟩
abbrev main_c_23 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_24 : Ref sig .tc := ⟨.hbm, 107, rfl⟩
abbrev main_v80 : Ref sig .tc := ⟨.hbm, 108, rfl⟩
abbrev main_v81 : Ref sig .tc := ⟨.hbm, 109, rfl⟩
abbrev main_c_25 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_26 : Ref sig .tc := ⟨.hbm, 116, rfl⟩
abbrev main_v87 : Ref sig .tc := ⟨.hbm, 117, rfl⟩
abbrev main_v88 : Ref sig .tc := ⟨.hbm, 118, rfl⟩
abbrev main_c_27 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_28 : Ref sig .tc := ⟨.hbm, 125, rfl⟩
abbrev main_v94 : Ref sig .tc := ⟨.hbm, 126, rfl⟩
abbrev main_v95 : Ref sig .tc := ⟨.hbm, 127, rfl⟩
abbrev main_c_29 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_30 : Ref sig .tc := ⟨.hbm, 134, rfl⟩
abbrev main_v101 : Ref sig .tc := ⟨.hbm, 135, rfl⟩
abbrev main_v102 : Ref sig .tc := ⟨.hbm, 136, rfl⟩
abbrev main_c_31 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_32 : Ref sig .tc := ⟨.hbm, 142, rfl⟩
abbrev main_v107 : Ref sig .tc := ⟨.hbm, 143, rfl⟩
abbrev main_v108 : Ref sig .tc := ⟨.hbm, 144, rfl⟩
abbrev main_c_33 : Ref sig .tc := ⟨.hbm, 145, rfl⟩
abbrev main_v109 : Ref sig .tc := ⟨.hbm, 146, rfl⟩
abbrev main_v110 : Ref sig .tc := ⟨.hbm, 147, rfl⟩
abbrev main_c_34 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_35 : Ref sig .tc := ⟨.hbm, 152, rfl⟩
abbrev main_v114 : Ref sig .tc := ⟨.hbm, 153, rfl⟩
abbrev main_v115 : Ref sig .tc := ⟨.hbm, 154, rfl⟩
abbrev main_c_36 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_37 : Ref sig .tc := ⟨.hbm, 161, rfl⟩
abbrev main_v121 : Ref sig .tc := ⟨.hbm, 162, rfl⟩
abbrev main_v122 : Ref sig .tc := ⟨.hbm, 163, rfl⟩
abbrev main_c_38 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_39 : Ref sig .tc := ⟨.hbm, 170, rfl⟩
abbrev main_v128 : Ref sig .tc := ⟨.hbm, 171, rfl⟩
abbrev main_v129 : Ref sig .tc := ⟨.hbm, 172, rfl⟩
abbrev main_c_40 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_41 : Ref sig .tc := ⟨.hbm, 179, rfl⟩
abbrev main_v135 : Ref sig .tc := ⟨.hbm, 180, rfl⟩
abbrev main_v136 : Ref sig .tc := ⟨.hbm, 181, rfl⟩
abbrev main_c_42 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_43 : Ref sig .tc := ⟨.hbm, 187, rfl⟩
abbrev main_v141 : Ref sig .tc := ⟨.hbm, 188, rfl⟩
abbrev main_v142 : Ref sig .tc := ⟨.hbm, 189, rfl⟩
abbrev main_c_44 : Ref sig .tc := ⟨.hbm, 190, rfl⟩
abbrev main_v143 : Ref sig .tc := ⟨.hbm, 191, rfl⟩
abbrev main_v144 : Ref sig .tc := ⟨.hbm, 192, rfl⟩
abbrev main_c_45 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_46 : Ref sig .tc := ⟨.hbm, 197, rfl⟩
abbrev main_v148 : Ref sig .tc := ⟨.hbm, 198, rfl⟩
abbrev main_v149 : Ref sig .tc := ⟨.hbm, 199, rfl⟩
abbrev main_c_47 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_48 : Ref sig .tc := ⟨.hbm, 206, rfl⟩
abbrev main_v155 : Ref sig .tc := ⟨.hbm, 207, rfl⟩
abbrev main_v156 : Ref sig .tc := ⟨.hbm, 208, rfl⟩
abbrev main_c_49 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_50 : Ref sig .tc := ⟨.hbm, 215, rfl⟩
abbrev main_v162 : Ref sig .tc := ⟨.hbm, 216, rfl⟩
abbrev main_v163 : Ref sig .tc := ⟨.hbm, 217, rfl⟩
abbrev main_c_51 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_c_52 : Ref sig .tc := ⟨.hbm, 224, rfl⟩
abbrev main_v169 : Ref sig .tc := ⟨.hbm, 225, rfl⟩
abbrev main_v170 : Ref sig .tc := ⟨.hbm, 226, rfl⟩
abbrev main_c_53 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_54 : Ref sig .tc := ⟨.hbm, 232, rfl⟩
abbrev main_v175 : Ref sig .tc := ⟨.hbm, 233, rfl⟩
abbrev main_v176 : Ref sig .tc := ⟨.hbm, 234, rfl⟩
abbrev main_c_55 : Ref sig .tc := ⟨.hbm, 235, rfl⟩
abbrev main_v177 : Ref sig .tc := ⟨.hbm, 236, rfl⟩
abbrev main_v178 : Ref sig .tc := ⟨.hbm, 237, rfl⟩
abbrev main_c_56 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_c_57 : Ref sig .tc := ⟨.hbm, 242, rfl⟩
abbrev main_v182 : Ref sig .tc := ⟨.hbm, 243, rfl⟩
abbrev main_v183 : Ref sig .tc := ⟨.hbm, 244, rfl⟩
abbrev main_c_58 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_cst_59 : Ref sig .tc := ⟨.hbm, 249, rfl⟩
abbrev main_v187 : Ref sig .tc := ⟨.hbm, 250, rfl⟩
abbrev main_v188 : Ref sig .tc := ⟨.hbm, 251, rfl⟩
abbrev main_cst_60 : Ref sig .tc := ⟨.hbm, 252, rfl⟩
abbrev main_v189 : Ref sig .tc := ⟨.hbm, 253, rfl⟩
abbrev main_v190 : Ref sig .tc := ⟨.hbm, 254, rfl⟩
abbrev main_cst_61 : Ref sig .tc := ⟨.hbm, 255, rfl⟩
abbrev main_v191 : Ref sig .tc := ⟨.hbm, 256, rfl⟩
abbrev main_v192 : Ref sig .tc := ⟨.hbm, 257, rfl⟩
abbrev main_cst_62 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_63 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_c_64 : Ref sig .tc := ⟨.hbm, 272, rfl⟩
abbrev main_call0_v0 : Ref sig .tc := ⟨.hbm, 273, rfl⟩
abbrev main_call0_v1 : Ref sig .tc := ⟨.hbm, 274, rfl⟩
abbrev main_v205 : Ref sig .tc := ⟨.hbm, 275, rfl⟩
abbrev main_c_65 : Ref sig .tc := ⟨.hbm, 276, rfl⟩
abbrev main_v206 : Ref sig .tc := ⟨.hbm, 277, rfl⟩
abbrev main_v207 : Ref sig .tc := ⟨.hbm, 278, rfl⟩
abbrev main_call1_v0 : Ref sig .tc := ⟨.hbm, 279, rfl⟩
abbrev main_call1_c : Ref sig .tc := ⟨.hbm, 280, rfl⟩
abbrev main_call1_v1 : Ref sig .tc := ⟨.hbm, 281, rfl⟩
abbrev main_call1_v2 : Ref sig .tc := ⟨.hbm, 282, rfl⟩
abbrev main_call1_v3 : Ref sig .tc := ⟨.hbm, 283, rfl⟩
abbrev main_call1_v4 : Ref sig .tc := ⟨.hbm, 284, rfl⟩
abbrev main_call1_c_0 : Ref sig .tc := ⟨.hbm, 285, rfl⟩
abbrev main_call1_v5 : Ref sig .tc := ⟨.hbm, 286, rfl⟩
abbrev main_v208 : Ref sig .tc := ⟨.hbm, 287, rfl⟩
abbrev main_call2_v0 : Ref sig .tc := ⟨.hbm, 288, rfl⟩
abbrev main_call2_c : Ref sig .tc := ⟨.hbm, 289, rfl⟩
abbrev main_call2_v1 : Ref sig .tc := ⟨.hbm, 290, rfl⟩
abbrev main_call2_v2 : Ref sig .tc := ⟨.hbm, 291, rfl⟩
abbrev main_call2_v3 : Ref sig .tc := ⟨.hbm, 292, rfl⟩
abbrev main_call2_v4 : Ref sig .tc := ⟨.hbm, 293, rfl⟩
abbrev main_call2_c_0 : Ref sig .tc := ⟨.hbm, 294, rfl⟩
abbrev main_call2_v5 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩

abbrev nD : Nat := 1
abbrev τ : Topo := Topo.v7x

variable {F : FTy → Type} [FloatOps F]
-- ==== Proof.Spec.lean ====
module

public import proofs.«01_k».proof.Proof.Gen.KernelIdeal
public import Idealize.ShloMosaic.Lib.Pipeline.Regions
public import Idealize.ShloMosaic.Lib.Pipeline.FrameBody
public import Idealize.ShloMosaic.Lib.Pipeline.Value
public import Idealize.ShloMosaic.Lib.ValueIdxCore

/-! What one entry of the result is, as a function of its position's counter and its two
probabilities: the random bits (twenty rounds of adds, rotations and exclusive ors), the uniform
number made from them, and the comparison of the two scaled weights. Stated once on vectors of any
shape, as a tile computes it, and once on single values. -/

@[expose] public section

noncomputable section

namespace Cert.Proof.K

open Idealize.ShloMosaic Idealize.ShloMosaic.ValueIdx Cert.KernelIdeal

variable {F : FTy → Type} [FloatOps F]

section Words

variable (s : Shape)

/-- Every lane rotated left by `d`, where `d'` is the word's width less `d`. -/
def rotV (d d' : BitVec 32) (x : IVec s 32) : IVec s 32 :=
  ori (shli x (broadcast s d)) (shrui x (broadcast s d'))

/-- One mixing step: the second word rotated, then crossed with the first. -/
def mixV (d d' : BitVec 32) (b a : IVec s 32) : IVec s 32 := xori (rotV s d d' b) a

/-- A constant added to every lane. -/
def addC (k : BitVec 32) (x : IVec s 32) : IVec s 32 := addi x (broadcast s k)

/-- The random bits of the counters `x`, to which the key word has been added. -/
def bitsV (x : IVec s 32) : IVec s 32 :=
  have b := mixV s 13#32 19#32 x x
  have a := addi x b
  have b := mixV s 15#32 17#32 b a
  have a := addi a b
  have b := mixV s 26#32 6#32 b a
  have a := addi a b
  have b := mixV s 6#32 26#32 b a
  have a := addC s 42#32 a
  have b := addC s 466689009#32 b
  have a := addi a b
  have b := mixV s 17#32 15#32 b a
  have a := addi a b
  have b := mixV s 29#32 3#32 b a
  have a := addi a b
  have b := mixV s 16#32 16#32 b a
  have a := addi a b
  have b := mixV s 24#32 8#32 b a
  have a := addC s 466689008#32 a
  have b := addC s 2#32 b
  have a := addi a b
  have b := mixV s 13#32 19#32 b a
  have a := addi a b
  have b := mixV s 15#32 17#32 b a
  have a := addi a b
  have b := mixV s 26#32 6#32 b a
  have a := addi a b
  have b := mixV s 6#32 26#32 b a
  have a := addC s 0#32 a
  have b := addC s 45#32 b
  have a := addi a b
  have b := mixV s 17#32 15#32 b a
  have a := addi a b
  have b := mixV s 29#32 3#32 b a
  have a := addi a b
  have b := mixV s 16#32 16#32 b a
  have a := addi a b
  have b := mixV s 24#32 8#32 b a
  have a := addC s 42#32 a
  have b := addC s 466689012#32 b
  have a := addi a b
  have b := mixV s 13#32 19#32 b a
  have a := addi a b
  have b := mixV s 15#32 17#32 b a
  have a := addi a b
  have b := mixV s 26#32 6#32 b a
  have a := addi a b
  have b := mixV s 6#32 26#32 b a
  have a := addC s 466689008#32 a
  have b := addC s 5#32 b
  xori a b

/-- Minus the logarithm of the uniform number the bits `x` make. -/
def expV (x : IVec s 32) : FVec F s .f32 :=
  have f : FVec F s .f32 := subf (bitcastToFloat .f32 (ori (shrui x (broadcast s 9#32)) (broadcast s 1065353216#32)))
    (broadcast s (Scalar.ofBits .f32 0x3F800000#32))
  have g : FVec F s .f32 := addf (mulf f (broadcast s (Scalar.ofBits .f32 0x3F800000#32))) (broadcast s (Scalar.ofBits .f32 0x00800000#32))
  have u : FVec F s .f32 := maximumf (broadcast s (Scalar.ofBits .f32 0x00800000#32)) g
  subf (broadcast s (Scalar.ofBits .f32 0x00000000#32)) (log u)

/-- The entries of a vector of positions: `x0`, `x1` the two counters (key word added), `p0`, `p1`
    the two probabilities. -/
def cellV (x0 x1 : IVec s 32) (p0 p1 : FVec F s .f32) : IVec s 32 :=
  extui 32 (cmpf .ogt
    (mulf (addf p1 (broadcast s (Scalar.ofBits .f32 0x0DA24260#32))) (expV s (bitsV s x0)))
    (mulf (addf p0 (broadcast s (Scalar.ofBits .f32 0x0DA24260#32))) (expV s (bitsV s x1)))) (by decide)

end Words

/-- One entry: `x0`, `x1` its two counters (key word added), `p0`, `p1` its two probabilities. -/
def cell (x0 x1 : BitVec 32) (p0 p1 : F .f32) : BitVec 32 :=
  cellV (F := F) ⟨0, ![]⟩ (fun _ => x0) (fun _ => x1) (fun _ => p0) (fun _ => p1) ix0

/-- A vector of entries holds at each place the entry there. -/
theorem cellV_apply (s : Shape) (x0 x1 : IVec s 32) (p0 p1 : FVec F s .f32) (y : s.Idx) :
    cellV s x0 x1 p0 p1 y = cell (x0 y) (x1 y) (p0 y) (p1 y) := by chain_rfl

/-- The counter of the first place of a column block: block row `w1`, block column `w2`, the columns
    from `o` of the block, probability `k`. -/
def bb (w1 w2 o k : BitVec 32) : BitVec 32 :=
  Scalar.addi (Scalar.muli (Scalar.addi (Scalar.muli (Scalar.muli w1 512#32) 4096#32) (Scalar.addi (Scalar.muli w2 512#32) o)) 2#32) k

/-- The counter, key word added, of a place of block `(w1, w2)`: row `r` and column `o + q`. -/
def ctr (w1 w2 o : BitVec 32) (r q : Nat) (k : BitVec 32) : BitVec 32 :=
  8192#32 * BitVec.ofNat 32 r + 2#32 * BitVec.ofNat 32 q + bb w1 w2 o k + 42#32

/-- The tile of block `(w1, w2)` of the result, from the block `X` of the probabilities. -/
def tile (w1 w2 : BitVec 32) (X : S512x8x128.Idx → F .f32) : S512x512.Idx → BitVec 32 := fun y =>
  have hr : (y 0).val < 512 := (y 0).isLt
  have hc : (y 1).val < 512 := (y 1).isLt
  cell (ctr w1 w2 (BitVec.ofNat 32 (128 * ((y 1).val / 128))) (y 0).val ((y 1).val % 128) 0#32)
    (ctr w1 w2 (BitVec.ofNat 32 (128 * ((y 1).val / 128))) (y 0).val ((y 1).val % 128) 1#32)
    (X (ix3 ⟨(y 0).val, hr⟩ ⟨2 * ((y 1).val / 128), by omega⟩ ⟨(y 1).val % 128, by omega⟩))
    (X (ix3 ⟨(y 0).val, hr⟩ ⟨2 * ((y 1).val / 128) + 1, by omega⟩ ⟨(y 1).val % 128, by omega⟩))

/-- The entries of the first `m` rows of one 128-column slice of a tile, `kb` the places' own part
    of the counters. -/
def sliceV (m : Nat) (kb : IVec ⟨2, ![m, 128]⟩ 32) (w1 w2 o : BitVec 32) (P0 P1 : FVec F ⟨3, ![m, 1, 128]⟩ .f32)
    (h : (⟨3, ![m, 1, 128]⟩ : Shape).ShapeCasts ⟨2, ![m, 128]⟩) (h' : (⟨2, ![m, 128]⟩ : Shape).ShapeCasts ⟨2, ![m, 128]⟩) :
    IVec ⟨2, ![m, 128]⟩ 32 :=
  shapeCast ⟨2, ![m, 128]⟩ (cellV _ (addC _ 42#32 (addC _ (bb w1 w2 o 0#32) kb)) (addC _ 42#32 (addC _ (bb w1 w2 o 1#32) kb))
    (shapeCast ⟨2, ![m, 128]⟩ P0 h) (shapeCast ⟨2, ![m, 128]⟩ P1 h)) h'

/-- A slice's entries are the tile's. -/
theorem sliceV_apply (m a o : Nat) (ha : a < 4) (ho : o = 128 * a) (kb : IVec ⟨2, ![m, 128]⟩ 32)
    (hkb : ∀ x, kb x = 8192#32 * BitVec.ofNat 32 (x 0).val + 2#32 * BitVec.ofNat 32 (x 1).val)
    (w1 w2 : BitVec 32) (X : S512x8x128.Idx → F .f32)
    (inb : ∀ d, ![0, o] d + ![m, 128] d ≤ S512x512.size d)
    (inb0 : ∀ d, ![0, 2 * a, 0] d + ![m, 1, 128] d ≤ S512x8x128.size d)
    (inb1 : ∀ d, ![0, 2 * a + 1, 0] d + ![m, 1, 128] d ≤ S512x8x128.size d) (h h')
    (x : (⟨2, ![m, 128]⟩ : Shape).Idx) :
    sliceV m kb w1 w2 (BitVec.ofNat 32 o) (fun j => X ((Rect.unit (s := S512x8x128) ![0, 2 * a, 0] ![m, 1, 128] inb0).emb j))
        (fun j => X ((Rect.unit (s := S512x8x128) ![0, 2 * a + 1, 0] ![m, 1, 128] inb1).emb j)) h h' x
      = tile w1 w2 X ((Rect.unit (s := S512x512) ![0, o] ![m, 128] inb).emb x) := by
  subst ho
  obtain ⟨r, q, rfl⟩ : ∃ r q, x = ix2 r q := ⟨_, _, eq_ix2 x⟩
  have hm : m ≤ 512 := by have := inb 0; simpa using this
  have e0 : ((Rect.unit (s := S512x512) ![0, 128 * a] ![m, 128] inb).emb (ix2 r q) 0).val = r.val := by
    simp [Rect.emb, LoadRect.idx, Rect.unit]
  have e1 : ((Rect.unit (s := S512x512) ![0, 128 * a] ![m, 128] inb).emb (ix2 r q) 1).val = 128 * a + q.val := by
    simp [Rect.emb, LoadRect.idx, Rect.unit]
  have d1 : (128 * a + q.val) / 128 = a := by omega
  have d2 : (128 * a + q.val) % 128 = q.val := by omega
  unfold sliceV
  rw [shapeCast_self, cellV_apply]
  unfold tile
  simp only [e0, e1, d1, d2]
  have ec (P : FVec F ⟨3, ![m, 1, 128]⟩ .f32) : shapeCast ⟨2, ![m, 128]⟩ P h (ix2 r q) = P (ix3 r 0 q) := by
    apply shapeCast_apply
    rw [Shape.rowMajor_val_three, Shape.rowMajor_val_two]
    simp
    rfl
  rw [ec, ec]
  have ek (k : BitVec 32) : addC _ 42#32 (addC _ (bb w1 w2 (BitVec.ofNat 32 (128 * a)) k) kb) (ix2 r q)
      = ctr w1 w2 (BitVec.ofNat 32 (128 * a)) r.val q.val k := by
    show kb (ix2 r q) + bb w1 w2 _ k + 42#32 = _
    rw [hkb]
    rfl
  rw [ek, ek]
  congr 2
  · funext d
    match d with
    | ⟨0, _⟩ => apply Fin.ext; simp [Rect.emb, LoadRect.idx, Rect.unit]
    | ⟨1, _⟩ => apply Fin.ext; simp [Rect.emb, LoadRect.idx, Rect.unit]
    | ⟨2, _⟩ => apply Fin.ext; simp [Rect.emb, LoadRect.idx, Rect.unit]
  · funext d
    match d with
    | ⟨0, _⟩ => apply Fin.ext; simp [Rect.emb, LoadRect.idx, Rect.unit]
    | ⟨1, _⟩ => apply Fin.ext; simp [Rect.emb, LoadRect.idx, Rect.unit]
    | ⟨2, _⟩ => apply Fin.ext; simp [Rect.emb, LoadRect.idx, Rect.unit]

end Cert.Proof.K
end
-- ==== Proof.Tiles.lean ====
module

public import proofs.«01_k».proof.Proof.Spec
public import proofs.«01_k».proof.Proof.Gen.KernelIdeal.Skeleton
public import Idealize.ShloMosaic.Lib.WordCmp
public import Idealize.ShloMosaic.Lib.VecWindow

/-! What a step stores in the scratch, slice by slice, and that it reads back as the tile. -/

@[expose] public section

noncomputable section

namespace Cert.Proof.K

open Idealize.ShloMosaic Idealize.ShloMosaic.ValueIdx Cert.KernelIdeal Cert.KernelIdeal.Gen

variable {F : FTy → Type} [FloatOps F]

section Lists

variable (M4 : Memref sig .tc .vmem S512x8x128 .f32) (f4 : M4.view.ty.Contents (Elt F)) (w1 w2 : BitVec 32)

/-- One probability of one column block: `m` rows of plane `p` of the block. -/
abbrev slab (m p : Nat) (inb : ∀ d, ![0, p, 0] d + ![m, 1, 128] d ≤ S512x8x128.size d) : FVec F ⟨3, ![m, 1, 128]⟩ .f32 :=
  View.readAt (Elt F) M4.view (Rect.unit (s := S512x8x128) ![0, p, 0] ![m, 1, 128] inb).toLoadRect f4

/-- What a step above the diagonal stores in the scratch: four slices of all the rows, the last first. -/
def upper : List (View.Piece (Elt F) S512x512 .i32) :=
  [⟨Rect.unit (s := S512x512) ![0, 384] S512x128.size inb_S512x512_S512x128_0_384, sliceV 512 k0_pay5 w1 w2 384#32
      (slab M4 f4 512 6 inb_S512x8x128_S512x1x128_0_6_0)
      (slab M4 f4 512 7 inb_S512x8x128_S512x1x128_0_7_0)
      shapeCasts_S512x1x128_S512x128 shapeCasts_S512x128_S512x128⟩,
   ⟨Rect.unit (s := S512x512) ![0, 256] S512x128.size inb_S512x512_S512x128_0_256, sliceV 512 k0_pay5 w1 w2 256#32
      (slab M4 f4 512 4 inb_S512x8x128_S512x1x128_0_4_0)
      (slab M4 f4 512 5 inb_S512x8x128_S512x1x128_0_5_0)
      shapeCasts_S512x1x128_S512x128 shapeCasts_S512x128_S512x128⟩,
   ⟨Rect.unit (s := S512x512) ![0, 128] S512x128.size inb_S512x512_S512x128_0_128, sliceV 512 k0_pay5 w1 w2 128#32
      (slab M4 f4 512 2 inb_S512x8x128_S512x1x128_0_2_0)
      (slab M4 f4 512 3 inb_S512x8x128_S512x1x128_0_3_0)
      shapeCasts_S512x1x128_S512x128 shapeCasts_S512x128_S512x128⟩,
   ⟨Rect.unit (s := S512x512) ![0, 0] S512x128.size inb_S512x512_S512x128_0_0, sliceV 512 k0_pay5 w1 w2 0#32
      (slab M4 f4 512 0 inb_S512x8x128_S512x1x128_0_0_0)
      (slab M4 f4 512 1 inb_S512x8x128_S512x1x128_0_1_0)
      shapeCasts_S512x1x128_S512x128 shapeCasts_S512x128_S512x128⟩]

/-- What a step on the diagonal stores in the scratch: of each slice the rows down to the diagonal's
    last, the last slice first. -/
def diag : List (View.Piece (Elt F) S512x512 .i32) :=
  [⟨Rect.unit (s := S512x512) ![0, 384] S512x128.size inb_S512x512_S512x128_0_384, sliceV 512 k0_pay5 w1 w2 384#32
      (slab M4 f4 512 6 inb_S512x8x128_S512x1x128_0_6_0)
      (slab M4 f4 512 7 inb_S512x8x128_S512x1x128_0_7_0)
      shapeCasts_S512x1x128_S512x128 shapeCasts_S512x128_S512x128⟩,
   ⟨Rect.unit (s := S512x512) ![0, 256] S384x128.size inb_S512x512_S384x128_0_256,
      sliceV 384 (extractStridedSlice S384x128 ![0, 0] k0_pay5 slices_S512x128_o0_0_S384x128) w1 w2 256#32
      (slab M4 f4 384 4 inb_S512x8x128_S384x1x128_0_4_0)
      (slab M4 f4 384 5 inb_S512x8x128_S384x1x128_0_5_0)
      shapeCasts_S384x1x128_S384x128 shapeCasts_S384x128_S384x128⟩,
   ⟨Rect.unit (s := S512x512) ![0, 128] S256x128.size inb_S512x512_S256x128_0_128,
      sliceV 256 (extractStridedSlice S256x128 ![0, 0] k0_pay5 slices_S512x128_o0_0_S256x128) w1 w2 128#32
      (slab M4 f4 256 2 inb_S512x8x128_S256x1x128_0_2_0)
      (slab M4 f4 256 3 inb_S512x8x128_S256x1x128_0_3_0)
      shapeCasts_S256x1x128_S256x128 shapeCasts_S256x128_S256x128⟩,
   ⟨Rect.unit (s := S512x512) ![0, 0] S128x128.size inb_S512x512_S128x128_0_0,
      sliceV 128 (extractStridedSlice S128x128 ![0, 0] k0_pay5 slices_S512x128_o0_0_S128x128) w1 w2 0#32
      (slab M4 f4 128 0 inb_S512x8x128_S128x1x128_0_0_0)
      (slab M4 f4 128 1 inb_S512x8x128_S128x1x128_0_1_0)
      shapeCasts_S128x1x128_S128x128 shapeCasts_S128x128_S128x128⟩]

theorem k0_pay5_apply (x : S512x128.Idx) :
    k0_pay5 x = 8192#32 * BitVec.ofNat 32 (x 0).val + 2#32 * BitVec.ofNat 32 (x 1).val := by
  show 8192#32 * BitVec.ofNat 32 (0 * 512 + (x 0).val) + 2#32 * BitVec.ofNat 32 (0 * 128 + (x 1).val) = _
  simp

/-- The first rows of the places' part of the counters. -/
theorem rows_apply (m : Nat) (h : S512x128.Slices ![0, 0] ⟨2, ![m, 128]⟩) (x : (⟨2, ![m, 128]⟩ : Shape).Idx) :
    extractStridedSlice ⟨2, ![m, 128]⟩ ![0, 0] k0_pay5 h x = 8192#32 * BitVec.ofNat 32 (x 0).val + 2#32 * BitVec.ofNat 32 (x 1).val := by
  unfold extractStridedSlice
  rw [k0_pay5_apply]
  simp

theorem upper_pieces : ∀ p ∈ upper M4 f4 w1 w2, ∀ x : p.1.shape.Idx,
    p.2 x = tile w1 w2 (M4.view.read (Elt F) f4) (p.1.emb x) := by
  intro p hp
  simp only [upper, List.mem_cons, List.not_mem_nil, or_false] at hp
  rcases hp with rfl | rfl | rfl | rfl <;> intro x
  · exact sliceV_apply 512 3 384 (by omega) rfl k0_pay5 k0_pay5_apply w1 w2 _ inb_S512x512_S512x128_0_384 _ _ _ _ x
  · exact sliceV_apply 512 2 256 (by omega) rfl k0_pay5 k0_pay5_apply w1 w2 _ inb_S512x512_S512x128_0_256 _ _ _ _ x
  · exact sliceV_apply 512 1 128 (by omega) rfl k0_pay5 k0_pay5_apply w1 w2 _ inb_S512x512_S512x128_0_128 _ _ _ _ x
  · exact sliceV_apply 512 0 0 (by omega) rfl k0_pay5 k0_pay5_apply w1 w2 _ inb_S512x512_S512x128_0_0 _ _ _ _ x

theorem diag_pieces : ∀ p ∈ diag M4 f4 w1 w2, ∀ x : p.1.shape.Idx,
    p.2 x = tile w1 w2 (M4.view.read (Elt F) f4) (p.1.emb x) := by
  intro p hp
  simp only [diag, List.mem_cons, List.not_mem_nil, or_false] at hp
  rcases hp with rfl | rfl | rfl | rfl <;> intro x
  · exact sliceV_apply 512 3 384 (by omega) rfl k0_pay5 k0_pay5_apply w1 w2 _ inb_S512x512_S512x128_0_384 _ _ _ _ x
  · exact sliceV_apply 384 2 256 (by omega) rfl _ (rows_apply 384 _) w1 w2 _ inb_S512x512_S384x128_0_256 _ _ _ _ x
  · exact sliceV_apply 256 1 128 (by omega) rfl _ (rows_apply 256 _) w1 w2 _ inb_S512x512_S256x128_0_128 _ _ _ _ x
  · exact sliceV_apply 128 0 0 (by omega) rfl _ (rows_apply 128 _) w1 w2 _ inb_S512x512_S128x128_0_0 _ _ _ _ x

/-- A place in the columns of a slice and above its last row is in the slice. -/
theorem mem_slice (m o : Nat) (inb : ∀ d, ![0, o] d + ![m, 128] d ≤ S512x512.size d) (y : S512x512.Idx)
    (h0 : (y 0).val < m) (h1 : o ≤ (y 1).val) (h2 : (y 1).val < o + 128) :
    y ∈ (Rect.unit (s := S512x512) ![0, o] ![m, 128] inb).set := by
  refine Rect.mem_set_unit.mpr fun d => ?_
  match d with
  | ⟨0, _⟩ => exact ⟨Nat.zero_le _, by simpa using h0⟩
  | ⟨1, _⟩ => exact ⟨h1, h2⟩

theorem read_upper (v : View sig .tc .vmem S512x512 .i32) (g : v.ty.Contents (Elt F)) (y : S512x512.Idx) :
    v.read (Elt F) (v.writes (Elt F) g (upper M4 f4 w1 w2)) y = tile w1 w2 (M4.view.read (Elt F) f4) y := by
  refine View.read_writes_apply_of_pieces v g _ _ (upper_pieces M4 f4 w1 w2) y ?_
  have h0 : (y 0).val < 512 := (y 0).isLt
  have h1 : (y 1).val < 512 := (y 1).isLt
  have : (y 1).val / 128 = 0 ∨ (y 1).val / 128 = 1 ∨ (y 1).val / 128 = 2 ∨ (y 1).val / 128 = 3 := by omega
  simp only [upper, List.mem_cons, List.not_mem_nil, or_false, exists_eq_or_imp, exists_eq_left]
  rcases this with h | h | h | h
  · exact .inr (.inr (.inr (mem_slice 512 0 _ y h0 (by omega) (by omega))))
  · exact .inr (.inr (.inl (mem_slice 512 128 _ y h0 (by omega) (by omega))))
  · exact .inr (.inl (mem_slice 512 256 _ y h0 (by omega) (by omega)))
  · exact .inl (mem_slice 512 384 _ y h0 (by omega) (by omega))

theorem read_diag (v : View sig .tc .vmem S512x512 .i32) (g : v.ty.Contents (Elt F)) (y : S512x512.Idx) (hy : (y 0).val ≤ (y 1).val) :
    v.read (Elt F) (v.writes (Elt F) g (diag M4 f4 w1 w2)) y = tile w1 w2 (M4.view.read (Elt F) f4) y := by
  refine View.read_writes_apply_of_pieces v g _ _ (diag_pieces M4 f4 w1 w2) y ?_
  have h1 : (y 1).val < 512 := (y 1).isLt
  have : (y 1).val / 128 = 0 ∨ (y 1).val / 128 = 1 ∨ (y 1).val / 128 = 2 ∨ (y 1).val / 128 = 3 := by omega
  simp only [diag, List.mem_cons, List.not_mem_nil, or_false, exists_eq_or_imp, exists_eq_left]
  rcases this with h | h | h | h
  · exact .inr (.inr (.inr (mem_slice 128 0 _ y (by omega) (by omega) (by omega))))
  · exact .inr (.inr (.inl (mem_slice 256 128 _ y (by omega) (by omega) (by omega))))
  · exact .inr (.inl (mem_slice 384 256 _ y (by omega) (by omega) (by omega)))
  · exact .inl (mem_slice 512 384 _ y (by omega) (by omega) (by omega))

end Lists

/-- A place of a tile with its row and column exchanged. -/
abbrev flip (y : S512x512.Idx) : S512x512.Idx := ix2 (y 1) (y 0)

theorem k0_pay4_apply (v : Vec F S512x512 .i32) (y : S512x512.Idx) : k0_pay4 v y = v (flip y) := by
  show transpose S512x512 [1, 0] v transposes_S512x512_p1_0_S512x512 y = _
  refine transpose_apply _ _ _ _ _ fun b => ?_
  match b with
  | ⟨0, _⟩ => rfl
  | ⟨1, _⟩ => rfl

theorem k0_pay3_apply (v : Vec F S512x512 .i32) (y : S512x512.Idx) :
    k0_pay3 v y = if (y 0).val ≤ (y 1).val then v y else v (flip y) := by
  have h0 : (y 0).val < 512 := (y 0).isLt
  have h1 : (y 1).val < 512 := (y 1).isLt
  show Scalar.select (IntOp.cmpi .sle (BitVec.ofNat 32 (0 * 512 + (y 0).val)) (BitVec.ofNat 32 (0 * 512 + (y 1).val))) (v y) (k0_pay4 v y) = _
  rw [k0_pay4_apply]
  have e : IntOp.cmpi .sle (BitVec.ofNat 32 (0 * 512 + (y 0).val)) (BitVec.ofNat 32 (0 * 512 + (y 1).val)) = 1#1 ↔ (y 0).val ≤ (y 1).val := by
    rw [Nat.zero_mul, Nat.zero_add, Nat.zero_add]
    exact WordCmp.cmpi_sle_ofNat_eq_one_iff (by omega) (by omega)
  by_cases h : (y 0).val ≤ (y 1).val
  · rw [if_pos h, e.mpr h, select_one]
  · rw [if_neg h, eq_zero_of_ne_one (fun he => h (e.mp he)), select_zero]

/-- What one step leaves: `w1 w2 w3` its table words, `X` its block of the probabilities, `S` and
    `S'` the scratch before and after it, `O` the tile it stores. -/
structure Step (w1 w2 w3 : BitVec 32) (X : S512x8x128.Idx → F .f32) (S S' O : S512x512.Idx → BitVec 32) : Prop where
  scratch : w3 = 0#32 → ∀ y, S' y = tile w1 w2 X y
  above : w3 = 0#32 → ∀ y, O y = tile w1 w2 X y
  onDiag : w3 = 1#32 → ∀ y, O y = if (y 0).val ≤ (y 1).val then tile w1 w2 X y else tile w1 w2 X (flip y)
  below : w3 = 2#32 → ∀ y, O y = S (flip y)

section Out

variable (v : View sig .tc .vmem S512x512 .i32) (v' : View sig .tc .vmem S512x512 .i32)

/-- A step's effect, from the stores it makes under its three conditions. -/
theorem step_of (M4 : Memref sig .tc .vmem S512x8x128 .f32) (f4 : M4.view.ty.Contents (Elt F)) (w1 w2 w3 : BitVec 32)
    (C3 C4 C5 : Prop) [Decidable C3] [Decidable C4] [Decidable C5]
    (h3 : C3 ↔ w3 = 0#32) (h4 : C4 ↔ w3 = 1#32) (h5 : C5 ↔ w3 = 2#32)
    (fs : v.ty.Contents (Elt F)) (f5 : v'.ty.Contents (Elt F)) (LU LD : List (View.Piece (Elt F) S512x512 .i32))
    (hU : LU = upper M4 f4 w1 w2) (hD : LD = diag M4 f4 w1 w2) (inb : ∀ d, ![0, 0] d + S512x512.size d ≤ S512x512.size d)
    (X : Vec F S512x512 .i32)
    (hX : X = v.readAt (Elt F) (Rect.unit (s := S512x512) ![0, 0] S512x512.size inb).toLoadRect
      (if _ : C4 then v.writes (Elt F) (if _ : C3 then v.writes (Elt F) fs LU else fs) LD
        else if _ : C3 then v.writes (Elt F) fs LU else fs)) :
    Step w1 w2 w3 (M4.view.read (Elt F) f4) (v.read (Elt F) fs)
      (v.read (Elt F) (if _ : C4 then (if _ : C3 then v.writes (Elt F) (v.writes (Elt F) fs LU) LD else v.writes (Elt F) fs LD)
        else if _ : C3 then v.writes (Elt F) fs LU else fs))
      (v'.read (Elt F) (if _ : C5 then v'.writes (Elt F)
          (if _ : C4 then v'.writes (Elt F)
            (if _ : C3 then v'.writes (Elt F) f5 [⟨Rect.unit (s := S512x512) ![0, 0] S512x512.size inb, X⟩] else f5)
            [⟨Rect.unit (s := S512x512) ![0, 0] S512x512.size inb, k0_pay3 X⟩]
          else if _ : C3 then v'.writes (Elt F) f5 [⟨Rect.unit (s := S512x512) ![0, 0] S512x512.size inb, X⟩] else f5)
          [⟨Rect.unit (s := S512x512) ![0, 0] S512x512.size inb, k0_pay4 X⟩]
        else if _ : C4 then v'.writes (Elt F)
            (if _ : C3 then v'.writes (Elt F) f5 [⟨Rect.unit (s := S512x512) ![0, 0] S512x512.size inb, X⟩] else f5)
            [⟨Rect.unit (s := S512x512) ![0, 0] S512x512.size inb, k0_pay3 X⟩]
        else if _ : C3 then v'.writes (Elt F) f5 [⟨Rect.unit (s := S512x512) ![0, 0] S512x512.size inb, X⟩] else f5)) := by
  subst hU hD
  rw [View.readAt_full] at hX
  have n01 : ¬ (0#32 = 1#32) := by decide
  have n02 : ¬ (0#32 = 2#32) := by decide
  have n10 : ¬ (1#32 = 0#32) := by decide
  have n12 : ¬ (1#32 = 2#32) := by decide
  have n20 : ¬ (2#32 = 0#32) := by decide
  have n21 : ¬ (2#32 = 1#32) := by decide
  refine ⟨?_, ?_, ?_, ?_⟩ <;> intro h <;> subst h <;> intro y
  · rw [dif_neg (fun h => n01 (h4.mp h)), dif_pos (h3.mpr rfl)]
    exact read_upper M4 f4 w1 w2 v fs y
  · rw [dif_neg (fun h => n01 (h4.mp h)), dif_pos (h3.mpr rfl)] at hX
    rw [dif_neg (fun h => n02 (h5.mp h)), dif_neg (fun h => n01 (h4.mp h)), dif_pos (h3.mpr rfl), View.read_writes_full, hX]
    exact read_upper M4 f4 w1 w2 v fs y
  · rw [dif_pos (h4.mpr rfl), dif_neg (fun h => n10 (h3.mp h))] at hX
    rw [dif_neg (fun h => n12 (h5.mp h)), dif_pos (h4.mpr rfl), View.read_writes_full, k0_pay3_apply, hX]
    by_cases hy : (y 0).val ≤ (y 1).val
    · rw [if_pos hy, if_pos hy]
      exact read_diag M4 f4 w1 w2 v fs y hy
    · rw [if_neg hy, if_neg hy]
      exact read_diag M4 f4 w1 w2 v fs (flip y) (Nat.le_of_lt (Nat.lt_of_not_le hy))
  · rw [dif_neg (fun h => n21 (h4.mp h)), dif_neg (fun h => n20 (h3.mp h))] at hX
    rw [dif_pos (h5.mpr rfl), View.read_writes_full, k0_pay4_apply, hX]

end Out

end Cert.Proof.K
end
-- ==== Proof.Body.lean ====
module

public import proofs.«01_k».proof.Proof.Gen.KernelIdeal
public import proofs.«01_k».proof.Proof.Gen.KernelIdeal.Skeleton
public import proofs.«01_k».proof.Proof.Tiles
public import Idealize.ShloMosaic.Lib.Tactic
public import Idealize.ShloMosaic.Lib.Pipeline.Kit

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's for the staging cells. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The word of a prefetched table at a grid point. -/
abbrev word (c : Dev nD) (i : grid0.Coords) (M : Memref sig .tc .smem S64 .i32) (t : Bf (F := F) c M) : BitVec 32 :=
  View.readAt (Elt F) M.view (Rect.unit (s := S64) (k0_off1 i) S1.size (k0_off1_inb i)).toLoadRect t (Shape.Idx.first (Nat.lt_of_lt_of_eq Nat.zero_lt_one numel1_S1.symm))

set_option maxRecDepth 65536
set_option maxHeartbeats 4000000

/-- The conditions of the stores, by the step's type word. -/
theorem conds (w : BitVec 32) (h : w = 0#32 ∨ w = 1#32 ∨ w = 2#32) :
    (k0_cond3 w = 1#1 ↔ w = 0#32) ∧ (k0_cond4 w = 1#1 ↔ w = 1#32) ∧ (k0_cond5 w = 1#1 ↔ w = 2#32) := by
  rcases h with rfl | rfl | rfl <;> decide

/-- One grid step of the kernel: from the tables, its block, its output tile and the scratch, to
    what the step leaves. -/
theorem run (c : Dev nD) (i : grid0.Coords) (M4 : Memref sig .tc .vmem S512x8x128 .f32) (h4 : M4.IsWhole)
    (M5 : Memref sig .tc .vmem S512x512 .i32) (h5 : M5.IsWhole)
    (t1 : Bf (F := F) c (Memref.whole main_c)) (t2 : Bf (F := F) c (Memref.whole main_c_0)) (t3 : Bf (F := F) c (Memref.whole main_c_1))
    (f4 : Bf (F := F) c M4) (f5 : Bf (F := F) c M5) (fs : Bf (F := F) c (Memref.whole cc0_scratch0))
    (hw : word c i (Memref.whole main_c_1) t3 = 0#32 ∨ word c i (Memref.whole main_c_1) t3 = 1#32 ∨ word c i (Memref.whole main_c_1) t3 = 2#32)
    (W : Waits sig Unit) (Q : PUnit → sProp 𝕄) :
    iprop(pt c (Memref.whole main_c) t1 ∗ pt c (Memref.whole main_c_0) t2 ∗ pt c (Memref.whole main_c_1) t3
      ∗ pt c M4 f4 ∗ pt c M5 f5 ∗ pt c (Memref.whole cc0_scratch0) fs ∗ owes (c : Thread nD τ) 0 W
      ∗ (iprop(pt c (Memref.whole main_c) t1 ∗ pt c (Memref.whole main_c_0) t2 ∗ pt c (Memref.whole main_c_1) t3
        ∗ pt c M4 f4
        ∗ (∃ (f5' : Bf (F := F) c M5) (fs' : Bf (F := F) c (Memref.whole cc0_scratch0)),
            ⌜Step (word c i (Memref.whole main_c) t1) (word c i (Memref.whole main_c_0) t2) (word c i (Memref.whole main_c_1) t3)
              (M4.view.read (Elt F) f4) ((Memref.whole cc0_scratch0).view.read (Elt F) fs)
              ((Memref.whole cc0_scratch0).view.read (Elt F) fs') (M5.view.read (Elt F) f5')⌝
            ∗ pt c M5 f5' ∗ pt c (Memref.whole cc0_scratch0) fs')
        ∗ owes (c : Thread nD τ) 0 W) -∗ Q ⟨⟩))
    ⊢ wp frame (wpE (defs₀ (F := F)) Variants.none c none) Set.univ
        (cc0__fused i (Memref.whole main_c) (Memref.isWhole_whole _) (Memref.whole main_c_0) (Memref.isWhole_whole _) (Memref.whole main_c_1) (Memref.isWhole_whole _)
          M4 h4 M5 h5 (Memref.whole cc0_scratch0) (Memref.isWhole_whole _)) Q := by
  obtain ⟨c3, c4, c5⟩ := conds _ hw
  iintro ⟨H1, H2, H3, H4, H5, Hs, HO, Hk⟩
  rw [cc0__fused_eq_skeleton]
  unfold cc0__fused_skel
  sl_exec_parts
  sl_step
  iapply Hk
  isplitl [H1]
  · iexact H1
  isplitl [H2]
  · iexact H2
  isplitl [H3]
  · iexact H3
  isplitl [H4]
  · iexact H4
  isplitr [HO]
  · iexists _
    iexists _
    isplitr
    rotate_left
    · isplitl [H5]
      · iexact H5
      · iexact Hs
    ipureintro
    refine step_of _ _ M4 f4 _ _ _ _ _ _ c3 c4 c5 fs f5 _ _ ?_ ?_ _ _ ?_
    · chain_rfl
    · chain_rfl
    · chain_rfl
  · iexact HO

end Cert.Proof.K
end
-- ==== Proof.Grid.lean ====
module

public import proofs.«01_k».proof.Proof.Body
public import Idealize.ShloMosaic.Lib.ValueIdxCore
public import Idealize.ShloMosaic.PureOps.BitExact

@[expose] public section

noncomputable section

/-! The launch's three tables, what each grid step reads of them, and the result as one function of the
place: `symAt P R C` is the sampled bit of the place on or above the diagonal. -/

namespace Cert.Proof.K

open Cert.KernelIdeal Cert.KernelIdeal.Gen Idealize.ShloMosaic Idealize.ShloMosaic.TcCoe
open Idealize.ShloMosaic.ValueIdx

variable {F : FTy → Type} [FloatOps F]

/-- The three tables as the host leaves them: block row, block column, kind of step. -/
abbrev tbl : pre0.Contents (Elt F)
  | 0 => fun i => lit0 (S64.rowMajor i)
  | 1 => fun i => lit1 (S64.rowMajor i)
  | 2 => fun i => lit2 (S64.rowMajor i)
  | ⟨_ + 3, h⟩ => absurd h (Nat.not_lt.2 (Nat.le_add_left _ _))

/-- Block row, block column and kind of the step at grid point `i`. -/
def B1 (i : grid0.Coords) : Nat := (lit0 (i 0)).toNat
def B2 (i : grid0.Coords) : Nat := (lit1 (i 0)).toNat
def B3 (i : grid0.Coords) : Nat := (lit2 (i 0)).toNat

theorem map_in (i : grid0.Coords) :
    cc0_transform_0 (F := F) Facts₀.k0_off1_inb Facts₀.numel1_S1 tbl i = ![min (B1 i) (B2 i), max (B1 i) (B2 i), 0] :=
  (show _ = cc0_transform_0 (F := Bits) Facts₀.k0_off1_inb Facts₀.numel1_S1 tbl i from rfl).trans
    ((by decide +kernel : ∀ i : grid0.Coords, cc0_transform_0 (F := Bits) Facts₀.k0_off1_inb Facts₀.numel1_S1 tbl i
      = ![min (B1 i) (B2 i), max (B1 i) (B2 i), 0]) i)

theorem map_out (i : grid0.Coords) :
    cc0_transform_1 (F := F) Facts₀.k0_off1_inb Facts₀.numel1_S1 tbl i = ![B1 i, B2 i] :=
  (show _ = cc0_transform_1 (F := Bits) Facts₀.k0_off1_inb Facts₀.numel1_S1 tbl i from rfl).trans
    ((by decide +kernel : ∀ i : grid0.Coords, cc0_transform_1 (F := Bits) Facts₀.k0_off1_inb Facts₀.numel1_S1 tbl i
      = ![B1 i, B2 i]) i)

/-- Every block the tables name lies in its array. -/
theorem ok : ok0 (F := F) tbl := by
  unfold ok0
  constructor
  · have h : ∀ i : grid0.Coords, ∀ a, (![min (B1 i) (B2 i), max (B1 i) (B2 i), 0] a + 1) * S512x8x128.size a ≤ S4096x64x128.size a := by
      decide +kernel
    exact fun i => ⟨fun a => by rw [map_in]; exact h i a, .inl rfl⟩
  · have h : ∀ i : grid0.Coords, ∀ a, (![B1 i, B2 i] a + 1) * S512x512.size a ≤ S4096x4096.size a := by
      decide +kernel
    exact fun i => ⟨fun a => by rw [map_out]; exact h i a, .inl rfl⟩

/-- The pipeline's tables. -/
abbrev adm : (p : Fin 1) → (pcfgs (F := F) p).Adm := fun _ => ⟨tbl, ok⟩

/-- The words the body loads. -/
theorem words (c : Dev nD) (i : grid0.Coords) :
    word (F := F) c i (Memref.whole main_c) (tbl 0) = BitVec.ofNat 32 (B1 i)
      ∧ word (F := F) c i (Memref.whole main_c_0) (tbl 1) = BitVec.ofNat 32 (B2 i)
      ∧ word (F := F) c i (Memref.whole main_c_1) (tbl 2) = BitVec.ofNat 32 (B3 i) :=
  (by decide +kernel : ∀ (c : Dev nD) (i : grid0.Coords),
    word (F := Bits) c i (Memref.whole main_c) (tbl 0) = BitVec.ofNat 32 (B1 i)
      ∧ word (F := Bits) c i (Memref.whole main_c_0) (tbl 1) = BitVec.ofNat 32 (B2 i)
      ∧ word (F := Bits) c i (Memref.whole main_c_1) (tbl 2) = BitVec.ofNat 32 (B3 i)) c i

/-- The kinds: a step above the diagonal, one on it, one below it. -/
theorem kinds : ∀ i : grid0.Coords, B1 i < 8 ∧ B2 i < 8
    ∧ (B3 i = 0 ∧ B1 i < B2 i ∨ B3 i = 1 ∧ B1 i = B2 i ∨ B3 i = 2 ∧ B2 i < B1 i) := by decide +kernel

/-- A step below the diagonal follows the step of the mirrored block. -/
theorem mirrored : ∀ t : Fin grid0.N, B3 (grid0.coords t) = 2 → ∃ u : Fin grid0.N, u.val + 1 = t.val ∧ B3 (grid0.coords u) = 0
    ∧ B1 (grid0.coords u) = B2 (grid0.coords t) ∧ B2 (grid0.coords u) = B1 (grid0.coords t) := by decide +kernel

/-- Every block of the result is some step's. -/
theorem onto : ∀ a b : Fin 8, ∃ i : grid0.Coords, B1 i = a.val ∧ B2 i = b.val := by decide +kernel

/-- No grid point leaves the output tile alone. -/
theorem live (w : Fin 2) (i : grid0.Coords) : idle0 (F := F) tbl w i = false :=
  (show _ = idle0 (F := Bits) tbl w i from rfl).trans
    ((by decide +kernel : ∀ (w : Fin 2) (i : grid0.Coords), idle0 (F := Bits) tbl w i = false) w i)

/-! ## The result by place -/

/-- The sampled bit of row `R` and column `C`, from the host's arrangement `P` of the probabilities. -/
def cellAt (P : S4096x64x128.Idx → F .f32) (R C : Nat) : BitVec 32 :=
  cell (BitVec.ofNat 32 (8192 * R + 2 * C + 42)) (BitVec.ofNat 32 (8192 * R + 2 * C + 43))
    (P (ix3 (Fin.ofNat 4096 R) (Fin.ofNat 64 (2 * (C / 128))) (Fin.ofNat 128 C)))
    (P (ix3 (Fin.ofNat 4096 R) (Fin.ofNat 64 (2 * (C / 128) + 1)) (Fin.ofNat 128 C)))

/-- The result at row `R` and column `C`: the upper triangle, mirrored. -/
def symAt (P : S4096x64x128.Idx → F .f32) (R C : Nat) : BitVec 32 :=
  if R ≤ C then cellAt P R C else cellAt P C R

/-- Block `(a, b)` of the probabilities. -/
def blockP (P : S4096x64x128.Idx → F .f32) (a b : Nat) : S512x8x128.Idx → F .f32 := fun y =>
  P (ix3 (Fin.ofNat 4096 (512 * a + (y 0).val)) (Fin.ofNat 64 (8 * b + (y 1).val)) (Fin.ofNat 128 (y 2).val))

theorem ctr_eq (a b r s q k : Nat) :
    ctr (BitVec.ofNat 32 a) (BitVec.ofNat 32 b) (BitVec.ofNat 32 (128 * s)) r q (BitVec.ofNat 32 k)
      = BitVec.ofNat 32 (8192 * (512 * a + r) + 2 * (512 * b + (128 * s + q)) + 42 + k) := by
  unfold ctr bb Scalar.addi Scalar.muli IntOp.addi IntOp.muli
  apply BitVec.eq_of_toNat_eq
  simp only [BitVec.toNat_add, BitVec.toNat_mul, BitVec.toNat_ofNat]
  omega

theorem tile_eq (P : S4096x64x128.Idx → F .f32) (a b : Nat) (hb : b < 8) (y : S512x512.Idx) :
    tile (BitVec.ofNat 32 a) (BitVec.ofNat 32 b) (blockP P a b) y = cellAt P (512 * a + (y 0).val) (512 * b + (y 1).val) := by
  have hc : (y 1).val < 512 := (y 1).isLt
  have hs : 128 * ((y 1).val / 128) + (y 1).val % 128 = (y 1).val := Nat.div_add_mod _ _
  have hd : (512 * b + (y 1).val) / 128 = 4 * b + (y 1).val / 128 := by omega
  have hm : (512 * b + (y 1).val) % 128 = (y 1).val % 128 := by omega
  unfold tile cellAt
  dsimp only
  have h0 := ctr_eq a b (y 0).val ((y 1).val / 128) ((y 1).val % 128) 0
  have h1 := ctr_eq a b (y 0).val ((y 1).val / 128) ((y 1).val % 128) 1
  rw [hs] at h0 h1
  rw [show (0#32) = BitVec.ofNat 32 0 from rfl, show (1#32) = BitVec.ofNat 32 1 from rfl, h0, h1]
  have e0 : Fin.ofNat 64 (8 * b + 2 * ((y 1).val / 128)) = Fin.ofNat 64 (2 * ((512 * b + (y 1).val) / 128)) := by
    rw [hd]; congr 1; omega
  have e1 : Fin.ofNat 64 (8 * b + (2 * ((y 1).val / 128) + 1)) = Fin.ofNat 64 (2 * ((512 * b + (y 1).val) / 128) + 1) := by
    rw [hd]; congr 1; omega
  have e2 : Fin.ofNat 128 ((y 1).val % 128) = Fin.ofNat 128 (512 * b + (y 1).val) := by
    apply Fin.ext; simp only [Fin.ofNat]; omega
  unfold blockP
  rw [← e0, ← e1, ← e2]

end Cert.Proof.K

end
-- ==== Proof.Run.lean ====
module

public import proofs.«01_k».proof.Proof.Grid
public import proofs.«01_k».proof.Proof.Gen.KernelIdeal.Launch
public import Idealize.ShloMosaic.Lib.Pipeline.Regions
public import Idealize.ShloMosaic.Lib.Pipeline.RegionArraysTS
public import Idealize.ShloMosaic.Lib.Pipeline.FrameBody
public import Idealize.ShloMosaic.Lib.Pipeline.ValueKit
public import Idealize.ShloMosaic.Lib.Pipeline.Covers

@[expose] public section

noncomputable section

namespace Cert.Proof.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra in the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- Core `c`'s buffers at launch, and when the region is entered. -/
abbrev V₀ (c : Dev nD) : Valuation τ sig (Elt F) := fun b => m ((c : Dev nD), b)
abbrev V (c : Dev nD) : Valuation τ sig (Elt F) := StableHlo.after hostOps0 (V₀ m c)

/-- The host's arrangement of the probabilities. -/
abbrev probs (c : Dev nD) : S4096x64x128.Idx → F .f32 := V m c (Proc.devRef .tc main_v2)

/-- The configuration of the launch. -/
abbrev cf : Cfg sig Λ₀ := Pipeline.pin (pcfgs (F := F)) adm 0

/-- The mirrored sample over the tile of grid point `i`. -/
def outAt (c : Dev nD) (i : grid0.Coords) : S512x512.Idx → BitVec 32 := fun y =>
  symAt (probs m c) (512 * B1 i + (y 0).val) (512 * B2 i + (y 1).val)

/-- What the scratch holds before grid point `t`: before a step below the diagonal, the mirrored tile. -/
def kept (c : Dev nD) (t : Nat) (fs : Bf (F := F) c (Memref.whole cc0_scratch0)) : Prop :=
  ∀ u : Fin grid0.N, u.val = t → B3 (grid0.coords u) = 2 → ∀ y : S512x512.Idx,
    (Memref.whole cc0_scratch0).view.read (Elt F) fs y
      = cellAt (probs m c) (512 * B2 (grid0.coords u) + (y 0).val) (512 * B1 (grid0.coords u) + (y 1).val)

/-- The invariant: the tables as the host left them, the scratch as the step before left it. -/
def inv (c : Dev nD) (t : Nat) : sProp 𝕄 :=
  iprop((∃ fs, ⌜kept m c t fs⌝ ∗ pt c (Memref.whole cc0_scratch0) fs) ∗ Pipeline.tablesAt (pcfgs (F := F)) adm 0 c)

def dats (_ : Fin 1) (c : Dev nD) : Dat τ (Elt F) Unit ℕ (UU nD τ) ℕ (cf (F := F)) c where
  A w := V m c (Proc.devRef .tc (Pipeline.arrRef spec0 w))
  after w t := match w with
    | ⟨0, _⟩ => (((cf (F := F)).win 0).blk t).view.read (Elt F) (V m c (Proc.devRef .tc (Pipeline.arrRef spec0 0)))
    | ⟨1, _⟩ => outAt m c (grid0.coords t)
    | ⟨_ + 2, h⟩ => absurd h (Nat.not_lt.2 (Nat.le_add_left _ _))
  Φ t := inv m c t.val
  q _ := fullShare
  owed _ := 0

theorem A_eq (c : Dev nD) (w : Fin (cf (F := F)).W) :
    (dats m 0 c).A w = V m c (Proc.devRef .tc (Pipeline.arrRef spec0 w)) := by
  dsimp only [dats]

abbrev 𝒱₀ : Variants := Variants.none

/-- The probabilities' block of a grid point. -/
theorem block_eq (c : Dev nD) (t : Fin (cf (F := F)).N) :
    (((cf (F := F)).win 0).blk t).view.read (Elt F) (V m c (Proc.devRef .tc (Pipeline.arrRef spec0 0)))
      = blockP (probs m c) (min (B1 (grid0.coords t)) (B2 (grid0.coords t))) (max (B1 (grid0.coords t)) (B2 (grid0.coords t))) := by
  obtain ⟨h1, h2, -⟩ := kinds (grid0.coords t)
  funext (y : S512x8x128.Idx)
  have h0 : (y 0).val < 512 := (y 0).isLt
  have h3 : (y 1).val < 8 := (y 1).isLt
  have h4 : (y 2).val < 128 := (y 2).isLt
  show probs m c ((((cf (F := F)).win 0).rect t).emb y) = _
  unfold blockP
  congr 1
  funext a
  apply Fin.ext
  refine (Window.rect_emb_val ((cf (F := F)).win 0) t y a rfl).trans ?_
  show cc0_transform_0 (F := F) Facts₀.k0_off1_inb Facts₀.numel1_S1 tbl (grid0.coords t) a * S512x8x128.size a + (y a).val = _
  rw [map_in]
  fin_cases a <;> simp [Fin.ofNat] <;> omega

/-- The input window's buffer holds the block when the body runs. -/
theorem before_in (c : Dev nD) (t : Fin (cf (F := F)).N) (d) :
    (dats m 0 c).before 0 t d
      = blockP (probs m c) (min (B1 (grid0.coords t)) (B2 (grid0.coords t))) (max (B1 (grid0.coords t)) (B2 (grid0.coords t))) :=
  ((dats m 0 c).before_in_eq_fetched 0 rfl (fun i => live (F := F) 0 i) (fun _ _ _ => rfl) (fun _ => rfl) t d).trans (block_eq m c t)

/-- The tables, listed. -/
theorem tables_eq (c : Dev nD) :
    (Pipeline.tablesAt (pcfgs (F := F)) adm 0 c : sProp 𝕄)
      = iprop(pt c (Memref.whole main_c) (tbl 0) ∗ pt c (Memref.whole main_c_0) (tbl 1) ∗ pt c (Memref.whole main_c_1) (tbl 2)) :=
  bigSep_univ_eq_bigSepL [(0 : Fin 3), (1 : Fin 3), (2 : Fin 3)] (by decide) (by decide) _

/-- A whole memref owned is its buffer held. -/
theorem owns_eq (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  obtain ⟨b, hsp, hsh, he, h⟩ := h
  subst hsp hsh he
  cases h
  exact owns_whole_eq (c : Thread nD τ) b fullShare X

/-- What a step leaves is the next step's invariant and the mirrored sample. -/
theorem step_facts (c : Dev nD) (t : Fin (cf (F := F)).N) {S S' : Bf (F := F) c (Memref.whole cc0_scratch0)} {O : S512x512.Idx → BitVec 32}
    (hk : kept m c t.val S)
    (h : Step (BitVec.ofNat 32 (B1 (grid0.coords t))) (BitVec.ofNat 32 (B2 (grid0.coords t))) (BitVec.ofNat 32 (B3 (grid0.coords t)))
      (blockP (probs m c) (min (B1 (grid0.coords t)) (B2 (grid0.coords t))) (max (B1 (grid0.coords t)) (B2 (grid0.coords t))))
      ((Memref.whole cc0_scratch0).view.read (Elt F) S) ((Memref.whole cc0_scratch0).view.read (Elt F) S') O) :
    kept m c (t.val + 1) S' ∧ O = outAt m c (grid0.coords t) := by
  obtain ⟨h1, h2, hkind⟩ := kinds (grid0.coords t)
  constructor
  · intro u hu hB y
    obtain ⟨v, hv, hv3, hv1, hv2⟩ := mirrored u hB
    obtain rfl : v = t := Fin.ext (by omega)
    have hlt : B1 (grid0.coords v) < B2 (grid0.coords v) := by omega
    rw [h.scratch (by rw [hv3]), min_eq_left hlt.le, max_eq_right hlt.le, tile_eq _ _ _ h2, hv1, hv2]
  · funext y
    have hy0 : (y 0).val < 512 := (y 0).isLt
    have hy1 : (y 1).val < 512 := (y 1).isLt
    unfold outAt symAt
    rcases hkind with ⟨h3, hlt⟩ | ⟨h3, heq⟩ | ⟨h3, hlt⟩
    · rw [h.above (by rw [h3]), min_eq_left hlt.le, max_eq_right hlt.le, tile_eq _ _ _ h2, if_pos (by omega)]
    · rw [h.onDiag (by rw [h3]), heq, min_self, max_self, tile_eq _ _ _ h2, tile_eq _ _ _ h2]
      by_cases hle : (y 0).val ≤ (y 1).val
      · rw [if_pos hle, if_pos (by omega)]
      · rw [if_neg hle, if_neg (by omega)]
    · rw [h.below (by rw [h3]), hk t rfl h3, if_neg (by omega)]

/-- The library's body obligation. -/
theorem body_obligation (c : Dev nD) : BodyObligation (dats m 0 c) (defs₀ (F := F)) 𝒱₀ () Set.univ := fun t => by
  rw [bigSep_W0, bigSep_W0]
  have hst0 : (stage0_0 ((cf (F := F)).slots t 0)).IsWhole := stage_whole0 0 _
  have hst1 : (stage0_1 ((cf (F := F)).slots t 1)).IsWhole := stage_whole0 1 _
  have hl0 : (cf (F := F)).idle 0 ((cf (F := F)).grid.coords t) = false := live (F := F) 0 (grid0.coords t)
  have hl1 : (cf (F := F)).idle 1 ((cf (F := F)).grid.coords t) = false := live (F := F) 1 (grid0.coords t)
  simp only [hl0, hl1]
  rw [show (dats m 0 c).Φ t.castSucc = inv m c t.val from rfl, show (dats m 0 c).Φ t.succ = inv m c (t.val + 1) from rfl]
  unfold inv Dat.owesAt Pipeline.owesWithin
  rw [tables_eq]
  rw [show (dats m 0 c).owed t.castSucc = 0 from rfl, show (dats m 0 c).owed t.succ = 0 from rfl]
  iintro ⟨⟨⟨%fs, %hk, Hs⟩, T1, T2, T3⟩, ⟨%W, %hW, HO⟩, ⟨%d0, H0⟩, ⟨%d1, H1⟩⟩
  ihave H0 := (Entails.of_eq (owns_eq c hst0 _)) $$ H0
  ihave H1 := (Entails.of_eq (owns_eq c hst1 _)) $$ H1
  icases H0 with ⟨%f0, %hf0, H0⟩
  icases H1 with ⟨%f1, %hf1, H1⟩
  replace hf0 := hf0.trans (before_in m c t d0)
  obtain ⟨w1, w2, w3⟩ := words (F := F) c (grid0.coords t)
  have hw : word c (grid0.coords t) (Memref.whole main_c_1) (tbl (F := F) 2) = 0#32 ∨ word c (grid0.coords t) (Memref.whole main_c_1) (tbl (F := F) 2) = 1#32
      ∨ word c (grid0.coords t) (Memref.whole main_c_1) (tbl (F := F) 2) = 2#32 := by
    rw [w3]
    obtain ⟨-, -, h⟩ := kinds (grid0.coords t)
    rcases h with ⟨h, -⟩ | ⟨h, -⟩ | ⟨h, -⟩ <;> rw [h] <;> decide
  iapply (run c (grid0.coords t) _ hst0 _ hst1 (tbl 0) (tbl 1) (tbl 2) f0 f1 fs hw W _)
  isplitl [T1]; · iexact T1
  isplitl [T2]; · iexact T2
  isplitl [T3]; · iexact T3
  isplitl [H0]; · iexact H0
  isplitl [H1]; · iexact H1
  isplitl [Hs]; · iexact Hs
  isplitl [HO]; · iexact HO
  iintro ⟨T1, T2, T3, H0, ⟨%f1', %fs', %hs, H1, Hs⟩, HO⟩
  rw [w1, w2, w3, hf0] at hs
  obtain ⟨hk', ho⟩ := step_facts m c t hk hs
  isplitl [T1 T2 T3 Hs]
  · isplitl [Hs]
    · iexists fs'; isplitr; · ipureintro; exact hk'
      iexact Hs
    isplitl [T1]; · iexact T1
    isplitl [T2]; · iexact T2
    iexact T3
  isplitl [HO]
  · iexists W; isplitr; · ipureintro; exact fun _ _ => Or.inl trivial
    iexact HO
  isplitl [H0]
  · iapply (Entails.of_eq (owns_eq c hst0 _).symm)
    iexists f0; isplitr; swap; (· iexact H0)
    ipureintro; exact hf0.trans (block_eq m c t).symm
  rw [show idle0 (F := F) tbl 1 (((pcfgs (F := F) 0).gridAt tbl).coords t) = false from live (F := F) 1 (grid0.coords t)]
  iapply (Entails.of_eq (owns_eq c hst1 _).symm)
  iexists f1'; isplitr; swap; (· iexact H1)
  ipureintro; exact ho

/-! ## The launch -/

abbrev L : GSem nD τ sig → Finset Unit := fun g => if g.1.2 = .tc then {()} else ∅
abbrev lv : GSem nD τ sig → Unit → ℕ := fun _ _ => 0

/-- What rides beside the buffers through the host operations. -/
abbrev Rd (c : Dev nD) : sProp 𝕄 := iprop(∃ W, owes (c : Thread nD τ) (0 : CellTallies nD τ sig Unit) W)

/-- The host's operations before the region. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) Rd

theorem levels : Pipeline.LevelCut (pcfgs (F := F)) adm () L lv 0 (fun _ => (0 : CellTallies nD τ sig Unit)) (fun _ => 0) where
  hι _ _ _ := Finset.mem_singleton_self _
  hιb _ _ _ := le_rfl
  hD _ _ _ h := absurd h (Nat.lt_irrefl 0)

/-- The tables as the host leaves them. -/
theorem tables_at (c : Dev nD) (k : Fin 3) : (adm (F := F) 0).1 k = V m c (Proc.devRef .tc (pre0.ref k)) := by
  fin_cases k <;> rfl

set_option backward.isDefEq.respectTransparency.types false in
/-- The region. -/
def reg0 : Pipeline.RegionSeg (pcfgs (F := F)) adm (dats m) () defs₀ 𝒱₀ L lv 0 :=
  Pipeline.RegionSeg.ofHeldInT (pcfgs (F := F)) adm (dats m) () defs₀ 𝒱₀ L lv 0 (fun _ => 0) (Pipeline.ucRefs τ sig)
    (fun _ => iprop(emp)) (fun _ => iprop(emp)) launch0 (fun c => (body_obligation m c).loose) (fun _ _ => rfl) (fun _ => rfl)
    (fun c => (dats m 0 c).share_full fun _ => rfl)
    (fun c => by
      rw [show (dats m 0 c).Φ 0 = inv m c 0 from rfl]
      unfold inv
      rw [show Pipeline.scopedRest (Pipeline.pin (pcfgs (F := F)) adm 0).spec c = Pipeline.scopedRest spec0 c from rfl, scopedRest0_eq]
      iintro ⟨⟨⟨%fs, Hs⟩, -⟩, HT⟩
      isplitl [Hs]
      · iexists fs; isplitr; swap; (· iexact Hs)
        ipureintro
        intro u hu hB
        obtain ⟨v, hv, -⟩ := mirrored u hB
        omega
      iexact HT)
    (fun c => by
      rw [show (dats m 0 c).Φ (Fin.last (Pipeline.pin (pcfgs (F := F)) adm 0).N) = inv m c (Pipeline.pin (pcfgs (F := F)) adm 0).N from rfl]
      unfold inv
      rw [show Pipeline.scopedRest (Pipeline.pin (pcfgs (F := F)) adm 0).spec c = Pipeline.scopedRest spec0 c from rfl, scopedRest0_eq]
      iintro ⟨⟨%fs, -, Hs⟩, HT⟩
      isplitl [Hs]
      · isplitl [Hs]; · iexists fs; iexact Hs
        iempintro
      iexact HT)
    (fun _ => 0) levels (fun _ => iprop(emp)) (V m) (fun c w => A_eq m c w) (tables_at m)

abbrev segs : List (Pipeline.Seg (pcfgs (F := F)) adm (dats m) () defs₀ 𝒱₀ L lv) := [.host (seg0 m), .region (reg0 m)]

/-- The buffers at the end. -/
abbrev Vend (c : Dev nD) : Valuation τ sig (Elt F) := Pipeline.afterRegion (dats m 0 c) (V m c)

abbrev Tend (c : Dev nD) : sProp 𝕄 := StableHlo.held (c : Thread nD τ) (Pipeline.ucRefs τ sig) (Vend m c)

theorem arrs_in : Pipeline.arrRefs (pcfgs (F := F) 0).spec ⊆ Pipeline.ucRefs τ sig :=
  Pipeline.arrRefs_sub_ucRefs _ (by intro w; exact (by decide : ∀ w : Fin 2, (Pipeline.arrRef spec0 w).isScoped = false) w)
theorem tbls_in : Pipeline.tblRefs (pcfgs (F := F) 0).pre ⊆ Pipeline.ucRefs τ sig :=
  Pipeline.tblRefs_sub_ucRefs _ (launch0 (F := F)).pre.unscoped

set_option backward.isDefEq.respectTransparency.types false in
/-- Every run ends, with every unscoped buffer as the region left it and every counter at zero. -/
theorem run_main : θ_run defs (onTc (τ := τ) (main (F := F))) ⟨m, fun _ => 0, ρ⟩
    (fun r => (∀ (c : Dev nD) (b : DevRef τ sig), b ∈ Pipeline.ucRefs τ sig → r.2.mem (c, b) = Vend m c b) ∧ r.2.sem = fun _ => 0) :=
  Pipeline.θ_run_regions_kit_sems (pcfgs (F := F)) adm (dats m) () (cellOf_inj adm) EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide)
    (O₀ := 0) (hL := fun _ h => if_neg h) (G := fun _ => iprop(emp))
    (u₀ := (initOf (Pipeline.cells (Pipeline.pin (pcfgs (F := F)) adm) (cellOf_inj adm)) (Pipeline.launchToks (Pipeline.pin (pcfgs (F := F)) adm) (cellOf_inj adm)), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rd c)) (Tₙ := Tend m)
    (hch := ⟨fun _ => .rfl,
      fun c => by
        refine BIBase.Entails.trans ?_ (Pipeline.RegionSeg.ofHeldInT_pre arrs_in tbls_in c)
        show iprop(StableHlo.held (c : Thread nD τ) (Pipeline.ucRefs τ sig) (V m c) ∗ Rd c) ⊢ _
        iintro ⟨H, HO⟩
        isplitl [H]; · iexact H
        isplitl [HO]; · iexact HO
        isplitr <;> iempintro,
      fun c => by
        refine (Pipeline.RegionSeg.ofHeldInT_post arrs_in tbls_in c).trans ?_
        iintro ⟨H, HO, -, -⟩
        isplitl [H]; · iexact H
        iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b : DevRef τ sig, b ∈ Pipeline.ucRefs τ sig → s.mem (c, b) = Vend m c b)
    (hfin := fun c s' => by
      have h := pointsTo_read_all (Ix := Unit) (Name := ℕ) (U := UU nD τ) (Lvl := ℕ) (Val := Elt F) (Pipeline.ucRefs τ sig) (fun b => ((c, b) : Loc nD τ sig)) (fun b => Vend m c b) s'
      refine (show iprop(Tend m c ∗ SI s') ⊢ _ from h).trans ?_
      iintro H
      imodintro
      iexact H)
    (hQ := fun _ h hz => ⟨h, funext fun g => hz g (.inr (by revert g; decide))⟩)

end Cert.Proof.K

end
-- ==== Proof.Value.lean ====
module

public import proofs.«01_k».proof.Proof.Run

@[expose] public section

noncomputable section

/-! What the kernel's run leaves: the argument as it was, and in the result the mirrored sample. -/

namespace Cert.Proof.K

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The argument is never written. -/
theorem arg_end (c : Dev nD) : Vend m c (Proc.devRef .tc main_arg0) = m ((c : Thread nD τ).loc main_arg0) := by
  refine (Pipeline.afterRegion_of_not_arr (dats m 0 c) (V m c) (b := main_arg0) ?_).trans rfl
  intro w
  exact (by decide : ∀ w : Fin 2, main_arg0 ≠ Pipeline.arrRef spec0 w) w

/-- The array after the last write-back. -/
theorem out_end (c : Dev nD) :
    (dats m 0 c).arrAt 1 (cf (F := F)).N = fun y : S4096x4096.Idx => symAt (probs m c) (y 0).val (y 1).val := by
  have hcov : ((cf (F := F)).win 1).Covers := by
    refine ((cf (F := F)).win 1).covers_of_indexMap_surj rfl (by intro a; exact (by decide : ∀ a, 0 < S512x512.size a) a) fun β => ?_
    have b0 : (β (0 : Fin 2)).val < 8 := lt_of_lt_of_eq (β (0 : Fin 2)).isLt (by show (4096 + 512 - 1) / 512 = 8; rfl)
    have b1 : (β (1 : Fin 2)).val < 8 := lt_of_lt_of_eq (β (1 : Fin 2)).isLt (by show (4096 + 512 - 1) / 512 = 8; rfl)
    obtain ⟨i, h1, h2⟩ := onto ⟨_, b0⟩ ⟨_, b1⟩
    refine ⟨i, fun (a : Fin 2) => ?_⟩
    show cc0_transform_1 (F := F) Facts₀.k0_off1_inb Facts₀.numel1_S1 tbl i a = _
    rw [map_out, h1, h2]
    fin_cases a <;> rfl
  refine (dats m 0 c).arrAt_eq_of_covers 1 _ hcov fun t hf (y : S512x512.Idx) => ?_
  have e : ∀ a : Fin 2, ((((cf (F := F)).win 1).rect t).emb y a : Nat) = ![B1 (grid0.coords t), B2 (grid0.coords t)] a * 512 + (y a).val := by
    intro a
    refine (Window.rect_emb_val ((cf (F := F)).win 1) t y a rfl).trans ?_
    show cc0_transform_1 (F := F) Facts₀.k0_off1_inb Facts₀.numel1_S1 tbl (grid0.coords t) a * S512x512.size a + (y a).val = _
    rw [map_out]
    fin_cases a <;> rfl
  show symAt (probs m c) (512 * B1 (grid0.coords t) + (y 0).val) (512 * B2 (grid0.coords t) + (y 1).val)
    = symAt (probs m c) ((((cf (F := F)).win 1).rect t).emb y (0 : Fin 2) : Nat) ((((cf (F := F)).win 1).rect t).emb y (1 : Fin 2) : Nat)
  rw [show ((((cf (F := F)).win 1).rect t).emb y (0 : Fin 2) : Nat) = _ from e 0, show ((((cf (F := F)).win 1).rect t).emb y (1 : Fin 2) : Nat) = _ from e 1]
  congr 1 <;> simp <;> omega

theorem res_end (c : Dev nD) :
    Vend m c (Proc.devRef .tc main_v3) = fun y : S4096x4096.Idx => symAt (probs m c) (y 0).val (y 1).val :=
  (Pipeline.afterRegion_arr (dats m 0 c) (V m c) (launch0 (F := F)).win.arr_inj (1 : Fin 2)).trans (out_end m c)

theorem mem_uc {b : Ref sig .tc} (h : b.isScoped = false) : (Proc.devRef .tc b : DevRef τ sig) ∈ Pipeline.ucRefs τ sig :=
  Pipeline.devRef_mem_ucRefs h

/-- The kernel's run: its result is the mirrored sample, its argument is as it was, every counter is zero. -/
theorem run_value : θ_run defs (onTc (τ := τ) (main (F := F))) ⟨m, fun _ => 0, ρ⟩
    (fun r => (∀ c : Dev nD,
        r.2.mem ((c : Thread nD τ).loc main_v3) = (fun y : S4096x4096.Idx => symAt (probs m c) (y 0).val (y 1).val)
        ∧ r.2.mem ((c : Thread nD τ).loc main_arg0) = m ((c : Thread nD τ).loc main_arg0))
      ∧ r.2.sem = fun _ => 0) :=
  (θ_run defs _ _).mono (fun r h => ⟨fun c =>
    ⟨(h.1 c _ (mem_uc (b := main_v3) rfl)).trans (res_end m c), (h.1 c _ (mem_uc (b := main_arg0) rfl)).trans (arg_end m c)⟩, h.2⟩) (run_main m ρ)

/-- The kernel's frame. -/
theorem run_frame : θ_run defs (onTc (τ := τ) (main (F := F))) ⟨m, fun _ => 0, ρ⟩
    (fun r => (∀ c : Dev nD, r.2.mem ((c : Thread nD τ).loc main_arg0) = m ((c : Thread nD τ).loc main_arg0))
      ∧ r.2.sem = fun _ => 0) :=
  (θ_run defs _ _).mono (fun r h => ⟨fun c => (h.1 c).2, h.2⟩) (run_value m ρ)

end Cert.Proof.K

end
-- ==== Proof.Frames.lean ====
module

public import proofs.«01_k».proof.Defs
public import proofs.«01_k».proof.Proof.Gen.Kernel
public import proofs.«01_k».proof.Proof.Gen.ReferenceIdeal.Run
public import proofs.«01_k».proof.Proof.Gen.Pre_nonneg
public import proofs.«01_k».proof.Proof.Value
public import Idealize.ShloMosaic.PureOps.BitExact
public import proofs.«01_k».proof.Proof.Body

@[expose] public section

noncomputable section

/-! The three frames, read off the runs. -/

namespace Cert.Proof

open Idealize.ShloMosaic Idealize.SL.Sem

/-- The kernel and its idealization print the same bodies. -/
theorem defs_eq : Cert.KernelIdeal.defs (F := Bits) = Cert.Kernel.defs (F := Bits) := by
  chain_rfl

theorem frame_kernel : Cert.quiescent_Kernel := fun m ρ _ => by
  have h := Cert.Proof.K.run_frame (F := Bits) m ρ
  rw [defs_eq] at h
  exact h

theorem frame_ideal : Cert.quiescent_KernelIdeal := fun m ρ _ =>
  Cert.Proof.K.run_frame (F := Ideal) m ρ

theorem frame_ideal_nonneg : Cert.quiescent_KernelIdeal_pre_nonneg := fun m ρ _ =>
  Cert.Proof.K.run_frame (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_nonneg : Cert.quiescent_ReferenceIdeal_pre_nonneg := fun m ρ _ =>
  frame_reference m ρ trivial

end Cert.Proof
-- ==== Proof.Cell.lean ====
module

public import proofs.«01_k».proof.Proof.Spec
public import Idealize.ShloMosaic.PureOps.Ideal.Laws
public import Mathlib.Analysis.SpecialFunctions.Log.Basic

@[expose] public section

noncomputable section

/-! One entry over the extended reals: comparing the two scaled weights is comparing the two
logarithms with Gumbel noise added. -/

namespace Cert.Proof.K

open Idealize.ShloMosaic Idealize.ShloMosaic.ValueIdx

/-- The random bits of one counter. -/
def bits (x : BitVec 32) : BitVec 32 := bitsV ⟨0, ![]⟩ (fun _ => x) ix0

/-- The uniform number the bits `w` make. -/
def uni (w : BitVec 32) : EReal :=
  max (Ideal.ofBits .f32 0x00800000#32)
    ((Ideal.ofBits .f32 ((w >>> 9) ||| 0x3F800000#32) - Ideal.ofBits .f32 0x3F800000#32) * Ideal.ofBits .f32 0x3F800000#32
      + Ideal.ofBits .f32 0x00800000#32)

/-- A weight's logarithm with the Gumbel noise of the bits `w` added. -/
def score (p : EReal) (w : BitVec 32) : EReal :=
  Ideal.log (p + Ideal.ofBits .f32 0x0DA24260#32) + -Ideal.log (-Ideal.log (uni w))

theorem one_word : Ideal.ofBits .f32 0x3F800000#32 = ((1 : ℝ) : EReal) := by
  simp [Ideal.ofBits, Ideal.ieee, -EReal.coe_mul]; norm_num

theorem tiny_word : Ideal.ofBits .f32 0x00800000#32 = (((2 : ℝ) ^ (-126 : Int) : ℝ) : EReal) := by
  simp [Ideal.ofBits, Ideal.ieee, -EReal.coe_mul]; norm_num

theorem eps_word : ∃ e : ℝ, 0 < e ∧ Ideal.ofBits .f32 0x0DA24260#32 = (e : EReal) := by
  refine ⟨_, ?_, by simp [Ideal.ofBits, Ideal.ieee, -EReal.coe_mul]; rfl⟩
  positivity

/-- The word that puts 23 bits under the exponent of one. -/
theorem mantissa_word (w : BitVec 32) :
    Ideal.ofBits .f32 ((w >>> 9) ||| 0x3F800000#32) = ((1 + (w.toNat / 512 : Nat) / (2 : ℝ) ^ 23 : ℝ) : EReal) := by
  have hw : w.toNat < 2 ^ 32 := w.isLt
  have hf : w.toNat / 512 < 2 ^ 23 := by omega
  have hv : ((w >>> 9) ||| 0x3F800000#32).toNat = 2 ^ 23 * 127 + w.toNat / 512 := by
    rw [BitVec.toNat_or, BitVec.toNat_ushiftRight, Nat.shiftRight_eq_div_pow, Nat.or_comm]
    rw [Nat.two_pow_add_eq_or_of_lt hf 127]
    rfl
  generalize ((w >>> 9) ||| 0x3F800000#32) = v at hv
  have h1 : (v.extractLsb' 31 1).toNat = 0 := by
    rw [BitVec.extractLsb'_toNat, hv, Nat.shiftRight_eq_div_pow]; omega
  have h2 : (v.extractLsb' 23 8).toNat = 127 := by
    rw [BitVec.extractLsb'_toNat, hv, Nat.shiftRight_eq_div_pow]; omega
  have h3 : (v.extractLsb' 0 23).toNat = w.toNat / 512 := by
    rw [BitVec.extractLsb'_toNat, hv, Nat.shiftRight_eq_div_pow]; omega
  have h1' : (v.extractLsb' 31 1 == 1#1) = false := by
    rw [beq_eq_false_iff_ne]; intro h; rw [h] at h1; exact absurd h1 (by decide)
  show Ideal.ieee 8 23 v = _
  unfold Ideal.ieee
  simp only [h1', h2, h3]
  rw [if_neg (by norm_num), if_neg (by norm_num)]
  congr 1
  push_cast
  norm_num
  ring

/-- The uniform number is a real strictly between zero and one. -/
theorem uni_real (w : BitVec 32) : ∃ u : ℝ, 0 < u ∧ u < 1 ∧ uni w = (u : EReal) := by
  have hw : w.toNat < 2 ^ 32 := w.isLt
  have hf : w.toNat / 512 ≤ 2 ^ 23 - 1 := by omega
  have hf' : ((w.toNat / 512 : Nat) : ℝ) ≤ 2 ^ 23 - 1 := by
    have := (Nat.cast_le (α := ℝ)).2 hf
    norm_num at this ⊢
    exact this
  have hf0 : (0 : ℝ) ≤ ((w.toNat / 512 : Nat) : ℝ) := Nat.cast_nonneg _
  generalize hk : ((w.toNat / 512 : Nat) : ℝ) = k at hf' hf0
  refine ⟨max ((2 : ℝ) ^ (-126 : Int)) ((1 + k / (2 : ℝ) ^ 23 - 1) * 1 + (2 : ℝ) ^ (-126 : Int)), ?_, ?_, ?_⟩
  · exact lt_max_of_lt_left (by positivity)
  · refine max_lt (by norm_num) ?_
    norm_num at hf' ⊢
    linarith
  · unfold uni
    rw [mantissa_word, one_word, tiny_word, hk]
    norm_cast

theorem log_real {r : ℝ} (h : 0 < r) : Ideal.log (r : EReal) = (Real.log r : EReal) := by
  show (if r ≤ 0 then ⊥ else (Real.log r : EReal)) = _
  rw [if_neg (not_le.2 h)]

/-- Sums of logarithms compare as products: `a`, `b` positive, perhaps infinite, `s`, `t` positive reals. -/
theorem score_lt (a b : EReal) (ha : 0 < a) (hb : 0 < b) (s t : ℝ) (hs : 0 < s) (ht : 0 < t) :
    Ideal.log a + -Ideal.log (s : EReal) < Ideal.log b + -Ideal.log (t : EReal) ↔ a * (t : EReal) < b * (s : EReal) := by
  rw [log_real hs, log_real ht]
  induction a with
  | bot => exact absurd ha (by simp)
  | top =>
    rw [EReal.top_mul_coe_of_pos ht]
    refine iff_of_false ?_ not_top_lt
    show ¬((⊤ : EReal) + _ < _)
    rw [← EReal.coe_neg, EReal.top_add_coe]
    exact not_top_lt
  | coe a =>
    have ha' : 0 < a := by exact_mod_cast ha
    induction b with
    | bot => exact absurd hb (by simp)
    | top =>
      rw [EReal.top_mul_coe_of_pos hs, log_real ha']
      refine iff_of_true ?_ ?_
      · show _ < (⊤ : EReal) + _
        rw [← EReal.coe_neg, ← EReal.coe_neg, ← EReal.coe_add, EReal.top_add_coe]
        exact EReal.coe_lt_top _
      · rw [← EReal.coe_mul]
        exact EReal.coe_lt_top _
    | coe b =>
      have hb' : 0 < b := by exact_mod_cast hb
      rw [log_real ha', log_real hb']
      norm_cast
      rw [← Real.log_lt_log_iff (mul_pos ha' ht) (mul_pos hb' hs), Real.log_mul ha'.ne' ht.ne', Real.log_mul hb'.ne' hs.ne']
      constructor <;> intro h <;> linarith

/-- Minus the logarithm of the uniform number, as the kernel writes it. -/
theorem expV_apply (v : IVec ⟨0, ![]⟩ 32) :
    expV (F := Ideal) ⟨0, ![]⟩ v ix0 = Ideal.ofBits .f32 0#32 - Ideal.log (uni (v ix0)) := by
  have hs : shrui v (broadcast ⟨0, ![]⟩ 9#32) = fun i => v i >>> 9 := by
    funext i; rfl
  unfold expV
  rw [hs]
  rfl

/-- An entry whose random words are `v0` and `v1`. -/
theorem cell_words (v0 v1 : IVec ⟨0, ![]⟩ 32) (p0 p1 : EReal) :
    extui 32 (cmpf .ogt
        (mulf (addf (fun _ => p1) (broadcast ⟨0, ![]⟩ (Scalar.ofBits (F := Ideal) .f32 0x0DA24260#32))) (expV (F := Ideal) ⟨0, ![]⟩ v0))
        (mulf (addf (fun _ => p0) (broadcast ⟨0, ![]⟩ (Scalar.ofBits (F := Ideal) .f32 0x0DA24260#32))) (expV (F := Ideal) ⟨0, ![]⟩ v1)))
        (by decide) ix0
      = (BitVec.ofBool (decide
          ((p0 + Ideal.ofBits .f32 0x0DA24260#32) * (Ideal.ofBits .f32 0#32 - Ideal.log (uni (v1 ix0)))
            < (p1 + Ideal.ofBits .f32 0x0DA24260#32) * (Ideal.ofBits .f32 0#32 - Ideal.log (uni (v0 ix0)))))).setWidth 32 := by
  rw [← expV_apply, ← expV_apply]
  generalize expV (F := Ideal) ⟨0, ![]⟩ v0 = f0
  generalize expV (F := Ideal) ⟨0, ![]⟩ v1 = f1
  rfl

theorem cell_cmp (x0 x1 : BitVec 32) (p0 p1 : EReal) :
    cell (F := Ideal) x0 x1 p0 p1 = (BitVec.ofBool (decide
      ((p0 + Ideal.ofBits .f32 0x0DA24260#32) * (Ideal.ofBits .f32 0#32 - Ideal.log (uni (bits x1)))
        < (p1 + Ideal.ofBits .f32 0x0DA24260#32) * (Ideal.ofBits .f32 0#32 - Ideal.log (uni (bits x0)))))).setWidth 32 :=
  cell_words (bitsV ⟨0, ![]⟩ fun _ => x0) (bitsV ⟨0, ![]⟩ fun _ => x1) p0 p1

/-- One entry, over the extended reals. -/
theorem cell_ideal (x0 x1 : BitVec 32) (p0 p1 : EReal) (h0 : 0 ≤ p0) (h1 : 0 ≤ p1) :
    cell (F := Ideal) x0 x1 p0 p1 = if score p0 (bits x0) < score p1 (bits x1) then 1#32 else 0#32 := by
  obtain ⟨e, he, eqe⟩ := eps_word
  obtain ⟨u0, a0, b0, e0⟩ := uni_real (bits x0)
  obtain ⟨u1, a1, b1, e1⟩ := uni_real (bits x1)
  have t0 : 0 < -Real.log u0 := neg_pos.2 (Real.log_neg a0 b0)
  have t1 : 0 < -Real.log u1 := neg_pos.2 (Real.log_neg a1 b1)
  have hz : Ideal.ofBits .f32 0#32 = 0 := by simp [Ideal.ofBits, Ideal.ieee]
  have c0 : Ideal.ofBits .f32 0#32 - Ideal.log (uni (bits x0)) = ((-Real.log u0 : ℝ) : EReal) := by
    rw [hz, e0, log_real a0, zero_sub, EReal.coe_neg]
  have c1 : Ideal.ofBits .f32 0#32 - Ideal.log (uni (bits x1)) = ((-Real.log u1 : ℝ) : EReal) := by
    rw [hz, e1, log_real a1, zero_sub, EReal.coe_neg]
  have n0 : -Ideal.log (uni (bits x0)) = ((-Real.log u0 : ℝ) : EReal) := by rw [e0, log_real a0, EReal.coe_neg]
  have n1 : -Ideal.log (uni (bits x1)) = ((-Real.log u1 : ℝ) : EReal) := by rw [e1, log_real a1, EReal.coe_neg]
  have hp (p : EReal) (h : 0 ≤ p) : 0 < p + Ideal.ofBits .f32 0x0DA24260#32 := by
    rw [eqe]
    exact lt_of_lt_of_le (by exact_mod_cast he) (le_add_of_nonneg_left h)
  rw [cell_cmp]
  rw [c0, c1]
  unfold score
  rw [n0, n1]
  have := score_lt (p0 + Ideal.ofBits .f32 0x0DA24260#32) (p1 + Ideal.ofBits .f32 0x0DA24260#32) (hp _ h0) (hp _ h1) _ _ t0 t1
  by_cases h : (p0 + Ideal.ofBits .f32 0x0DA24260#32) * ((-Real.log u1 : ℝ) : EReal)
      < (p1 + Ideal.ofBits .f32 0x0DA24260#32) * ((-Real.log u0 : ℝ) : EReal)
  · rw [if_pos (this.2 h), decide_eq_true h]; rfl
  · rw [if_neg fun g => h (this.1 g), decide_eq_false h]; rfl

end Cert.Proof.K
-- ==== Proof.RefBits.lean ====
module

public import proofs.«01_k».proof.Proof.Gen.ReferenceIdeal.Run
public import proofs.«01_k».proof.Proof.Cell

@[expose] public section

noncomputable section

/-! The random words of the reference are the kernel's: both mix the same two words in the same
twenty rounds, the kernel with the constants of each injection added up beforehand. -/

namespace Cert.Proof.K

open Idealize.ShloMosaic Idealize.ShloMosaic.ValueIdx Cert.ReferenceIdeal.Value

/-- A word rotated left by `d`, where `d'` is 32 less `d`, then crossed with `a`. -/
def mixW (d d' a b : BitVec 32) : BitVec 32 := a ^^^ ((b <<< d) ||| (b >>> d'))

/-- A group of four rounds on the pair, the first sum already made, the last one not. -/
def group (d1 e1 d2 e2 d3 e3 d4 e4 : BitVec 32) (p : BitVec 32 × BitVec 32) : BitVec 32 × BitVec 32 :=
  have a := p.1
  have b := mixW d1 e1 a p.2
  have a := a + b
  have b := mixW d2 e2 a b
  have a := a + b
  have b := mixW d3 e3 a b
  have a := a + b
  (a, mixW d4 e4 a b)

def even (p : BitVec 32 × BitVec 32) := group 13#32 19#32 15#32 17#32 26#32 6#32 6#32 26#32 p
def odd (p : BitVec 32 × BitVec 32) := group 17#32 15#32 29#32 3#32 16#32 16#32 24#32 8#32 p

/-- Constants added to the two words. -/
def inj (k l : BitVec 32) (p : BitVec 32 × BitVec 32) : BitVec 32 × BitVec 32 := (p.1 + k, p.2 + l)

/-- The first word becomes the sum. -/
def sum (p : BitVec 32 × BitVec 32) : BitVec 32 × BitVec 32 := (p.1 + p.2, p.2)

/-- A constant added to the second word. -/
def second (l : BitVec 32) (p : BitVec 32 × BitVec 32) : BitVec 32 × BitVec 32 := (p.1, p.2 + l)

/-- The two words crossed. -/
def cross (p : BitVec 32 × BitVec 32) : BitVec 32 := p.1 ^^^ p.2

theorem second_inj (k l l' : BitVec 32) (p : BitVec 32 × BitVec 32) : second l' (inj k l p) = inj k (l + l') p := by
  simp [inj, second, BitVec.add_assoc]

section Kernel

variable (s : Shape)

/-- Four rounds of the kernel's, handing on the two words. -/
def groupC (d1 e1 d2 e2 d3 e3 d4 e4 : BitVec 32) (a b : IVec s 32) (k : IVec s 32 → IVec s 32 → IVec s 32) : IVec s 32 :=
  have b := mixV s d1 e1 b a
  have a := addi a b
  have b := mixV s d2 e2 b a
  have a := addi a b
  have b := mixV s d3 e3 b a
  have a := addi a b
  have b := mixV s d4 e4 b a
  k a b

/-- The kernel's injection, handing on the two words. -/
def injC (c d : BitVec 32) (a b : IVec s 32) (k : IVec s 32 → IVec s 32 → IVec s 32) : IVec s 32 :=
  have a := addC s c a
  have b := addC s d b
  k a b

/-- The kernel's words in these pieces. -/
theorem bitsV_pieces (x : IVec s 32) : bitsV s x =
    groupC s 13#32 19#32 15#32 17#32 26#32 6#32 6#32 26#32 x x fun a b =>
    injC s 42#32 466689009#32 a b fun a b => have a := addi a b
    groupC s 17#32 15#32 29#32 3#32 16#32 16#32 24#32 8#32 a b fun a b =>
    injC s 466689008#32 2#32 a b fun a b => have a := addi a b
    groupC s 13#32 19#32 15#32 17#32 26#32 6#32 6#32 26#32 a b fun a b =>
    injC s 0#32 45#32 a b fun a b => have a := addi a b
    groupC s 17#32 15#32 29#32 3#32 16#32 16#32 24#32 8#32 a b fun a b =>
    injC s 42#32 466689012#32 a b fun a b => have a := addi a b
    groupC s 13#32 19#32 15#32 17#32 26#32 6#32 6#32 26#32 a b fun a b =>
    injC s 466689008#32 5#32 a b fun a b => xori a b := by
  unfold bitsV groupC injC
  rfl

theorem mixV_apply (d e : BitVec 32) (hd : d.toNat < 32) (he : e.toNat < 32) (b a : IVec s 32) (i : s.Idx) :
    mixV s d e b a i = mixW d e (a i) (b i) := by
  show IntOp.ori (IntOp.shli .vector (b i) d) (IntOp.shrui .vector (b i) e) ^^^ a i = _
  unfold IntOp.shli IntOp.shrui
  rw [if_pos hd, if_pos he]
  exact BitVec.xor_comm _ _

theorem groupC_apply {d1 e1 d2 e2 d3 e3 d4 e4 : BitVec 32} (h : ∀ z ∈ [d1, e1, d2, e2, d3, e3, d4, e4], z.toNat < 32)
    (a b : IVec s 32) (k : IVec s 32 → IVec s 32 → IVec s 32) (i : s.Idx) (R : BitVec 32)
    (hk : ∀ a' b' : IVec s 32, (a' i, b' i) = group d1 e1 d2 e2 d3 e3 d4 e4 (a i, b i) → k a' b' i = R) :
    groupC s d1 e1 d2 e2 d3 e3 d4 e4 a b k i = R := by
  refine hk _ _ ?_
  have m1 := mixV_apply s d1 e1 (h _ (by simp)) (h _ (by simp))
  have m2 := mixV_apply s d2 e2 (h _ (by simp)) (h _ (by simp))
  have m3 := mixV_apply s d3 e3 (h _ (by simp)) (h _ (by simp))
  have m4 := mixV_apply s d4 e4 (h _ (by simp)) (h _ (by simp))
  have ad (x y : IVec s 32) : addi x y i = x i + y i := rfl
  unfold group
  simp only [ad, m1, m2, m3, m4]

theorem injC_apply (c d : BitVec 32) (a b : IVec s 32) (k : IVec s 32 → IVec s 32 → IVec s 32) (i : s.Idx) (R : BitVec 32)
    (hk : ∀ a' b' : IVec s 32, (a' i, b' i) = inj c d (a i, b i) → k a' b' i = R) : injC s c d a b k i = R :=
  hk _ _ rfl

theorem sum_apply (a b : IVec s 32) (i : s.Idx) : ((addi a b : IVec s 32) i, b i) = sum (a i, b i) := rfl

theorem even_ok : ∀ z ∈ [13#32, 19#32, 15#32, 17#32, 26#32, 6#32, 6#32, 26#32], z.toNat < 32 := by simp
theorem odd_ok : ∀ z ∈ [17#32, 15#32, 29#32, 3#32, 16#32, 16#32, 24#32, 8#32], z.toNat < 32 := by simp

/-- The kernel's random word at a place. -/
theorem bitsV_apply (x : IVec s 32) (i : s.Idx) :
    bitsV s x i = cross (inj 466689008#32 5#32 (even (sum (inj 42#32 466689012#32 (odd (sum (inj 0#32 45#32 (even (sum
      (inj 466689008#32 2#32 (odd (sum (inj 42#32 466689009#32 (even (x i, x i))))))))))))))) := by
  rw [bitsV_pieces]
  refine groupC_apply s even_ok _ _ _ i _ fun a1 b1 h1 => ?_
  refine injC_apply s _ _ _ _ _ i _ fun a2 b2 h2 => ?_
  refine groupC_apply s odd_ok _ _ _ i _ fun a3 b3 h3 => ?_
  refine injC_apply s _ _ _ _ _ i _ fun a4 b4 h4 => ?_
  refine groupC_apply s even_ok _ _ _ i _ fun a5 b5 h5 => ?_
  refine injC_apply s _ _ _ _ _ i _ fun a6 b6 h6 => ?_
  refine groupC_apply s odd_ok _ _ _ i _ fun a7 b7 h7 => ?_
  refine injC_apply s _ _ _ _ _ i _ fun a8 b8 h8 => ?_
  refine groupC_apply s even_ok _ _ _ i _ fun a9 b9 h9 => ?_
  refine injC_apply s _ _ _ _ _ i _ fun a b h => ?_
  show cross (a i, b i) = _
  rw [h, h9, sum_apply, h8, h7, sum_apply, h6, h5, sum_apply, h4, h3, sum_apply, h2, h1]
  rfl

end Kernel

variable {F : FTy → Type} [FloatOps F]
variable (V : Valuation Cert.ReferenceIdeal.τ Cert.ReferenceIdeal.sig (Elt F)) (j : Cert.ReferenceIdeal.S16777216x2.Idx)

theorem words_one : (res_main_v45 V j, res_main_v44 V j)
    = sum (second 1#32 (inj 42#32 466689008#32 (even (res_main_v11 V j, res_main_v10 V j)))) := by
  chain_rfl

theorem words_two : (res_main_v79 V j, res_main_v78 V j)
    = sum (second 2#32 (inj 466689008#32 0#32 (odd (res_main_v45 V j, res_main_v44 V j)))) := by
  chain_rfl

theorem words_three : (res_main_v113 V j, res_main_v112 V j)
    = sum (second 3#32 (inj 0#32 42#32 (even (res_main_v79 V j, res_main_v78 V j)))) := by
  chain_rfl

theorem words_four : (res_main_v147 V j, res_main_v146 V j)
    = sum (second 4#32 (inj 42#32 466689008#32 (odd (res_main_v113 V j, res_main_v112 V j)))) := by
  chain_rfl

/-- The reference's random word at a place: the kernel's, at the place's counter. -/
theorem words_all :
    cross (second 5#32 (inj 466689008#32 0#32 (even (res_main_v147 V j, res_main_v146 V j)))) = bits (res_main_v10 V j) := by
  have h : res_main_v11 V j = res_main_v10 V j := by
    show (0#32 + 0#32) + res_main_v10 V j = _
    exact BitVec.zero_add _
  rw [show bits (res_main_v10 V j) = _ from bitsV_apply _ _ _, words_four, words_three, words_two, words_one, h]
  simp only [second_inj]
  rfl

end Cert.Proof.K
-- ==== Proof.RefValue.lean ====
module

public import proofs.«01_k».proof.Proof.RefBits

@[expose] public section

noncomputable section

/-! What the reference computes at each place. -/

namespace Cert.Proof.K

open Idealize.ShloMosaic Idealize.ShloMosaic.ValueIdx Cert.ReferenceIdeal Cert.ReferenceIdeal.Gen Cert.ReferenceIdeal.Value

section Words

variable {F : FTy → Type} [FloatOps F]
variable (V : Valuation Cert.ReferenceIdeal.τ Cert.ReferenceIdeal.sig (Elt F))

/-- The counter of outcome `c` of pair `p`, key word added. -/
theorem counter_at (p : Fin 16777216) (c : Fin 2) :
    res_main_v10 V (ix2 p c) = BitVec.ofNat 32 (2 * p.val + c.val) + 42#32 := by
  unfold res_main_v10
  show shapeCast _ _ _ (ix2 p c) + 42#32 = _
  rw [shapeCast_apply _ _ (ix2 p c) (ix1 ⟨2 * p.val + c.val, by omega⟩)
    (by rw [Shape.rowMajor_val_two, Shape.rowMajor_val_one]; show 2 * p.val + c.val = p.val * 2 + c.val; omega)]
  rfl

end Words

variable (V : Valuation Cert.ReferenceIdeal.τ Cert.ReferenceIdeal.sig (Elt Ideal))

/-- The last random word. -/
def lastWord : IVec S16777216x2 32 :=
  xori (addi (res_main_v168 V) (broadcastInDim S16777216x2 ![] bcast_S_S16777216x2 (constantI S_ 32 466689008#32)))
    (addi (addi (xori (res_main_v168 V) (ori (Host.shli (res_main_v167 V) (broadcastInDim S16777216x2 ![] bcast_S_S16777216x2 (constantI S_ 32 6#32)))
      (Host.shrui (res_main_v167 V) (broadcastInDim S16777216x2 ![] bcast_S_S16777216x2 (constantI S_ 32 26#32)))))
      (broadcastInDim S16777216x2 ![] bcast_S_S16777216x2 (constantI S_ 32 0#32)))
      (broadcastInDim S16777216x2 ![] bcast_S_S16777216x2 (constantI S_ 32 5#32)))

/-- The uniform numbers the words make. -/
def unis (W : IVec S16777216x2 32) : FVec Ideal S16777216x2 .f32 :=
  maximumf (broadcastInDim S16777216x2 ![] bcast_S_S16777216x2 (constant S_ .f32 0x00800000#32))
    (addf (mulf (subf (bitcastToFloat (F := Ideal) .f32 (ori
      (Host.shrui W (broadcastInDim S16777216x2 ![] bcast_S_S16777216x2 (constantI S_ 32 9#32)))
      (broadcastInDim S16777216x2 ![] bcast_S_S16777216x2 (constantI S_ 32 1065353216#32))))
      (broadcastInDim S16777216x2 ![] bcast_S_S16777216x2 (constant S_ .f32 0x3F800000#32)))
      (broadcastInDim S16777216x2 ![] bcast_S_S16777216x2 (constant S_ .f32 0x3F800000#32)))
      (broadcastInDim S16777216x2 ![] bcast_S_S16777216x2 (constant S_ .f32 0x00800000#32)))

/-- The scores of the probabilities `P` under the uniform numbers `U`. -/
def scores (P U : FVec Ideal S16777216x2 .f32) : FVec Ideal S16777216x2 .f32 :=
  addf (Host.log (addf P (broadcastInDim S16777216x2 ![] bcast_S_S16777216x2 (constant S_ .f32 0x0DA24260#32))))
    (Host.negf (Host.log (Host.negf (Host.log U))))

theorem scores_apply (P U : FVec Ideal S16777216x2 .f32) (j : S16777216x2.Idx) :
    scores P U j = Ideal.log (P j + Ideal.ofBits .f32 0x0DA24260#32) + -Ideal.log (-Ideal.log (U j)) := rfl

theorem unis_apply (W : IVec S16777216x2 32) (j : S16777216x2.Idx) : unis W j = uni (W j) := by
  have hs : Host.shrui W (broadcastInDim S16777216x2 ![] bcast_S_S16777216x2 (constantI S_ 32 9#32)) = fun i => W i >>> 9 := by
    funext i; rfl
  unfold unis
  rw [hs]
  rfl

theorem scores_eq : res_main_v199 V
    = scores (shapeCast S16777216x2 (V (Proc.devRef .tc main_arg0)) shapeCasts_S4096x4096x2_S16777216x2) (unis (lastWord V)) := rfl

theorem lastWord_apply (j : S16777216x2.Idx) :
    lastWord V j = cross (second 5#32 (inj 466689008#32 0#32 (even (res_main_v147 V j, res_main_v146 V j)))) := by
  chain_rfl

theorem score_words (j : S16777216x2.Idx) :
    res_main_v199 V j = score (shapeCast S16777216x2 (V (Proc.devRef .tc main_arg0)) shapeCasts_S4096x4096x2_S16777216x2 j)
      (cross (second 5#32 (inj 466689008#32 0#32 (even (res_main_v147 V j, res_main_v146 V j))))) := by
  rw [scores_eq, scores_apply, unis_apply, lastWord_apply]
  rfl

theorem score_at (p : Fin 16777216) (c : Fin 2) :
    res_main_v199 V (ix2 p c)
      = score (V (Proc.devRef .tc main_arg0) (ix3 ⟨p.val / 4096, by omega⟩ ⟨p.val % 4096, by omega⟩ c))
        (bits (BitVec.ofNat 32 (2 * p.val + c.val) + 42#32)) := by
  rw [score_words, words_all, counter_at]
  congr 1
  exact shapeCast_apply _ _ _ _ (by
    show (S4096x4096x2.rowMajor _).val = _
    rw [Shape.rowMajor_val_three, Shape.rowMajor_val_two]
    show (p.val / 4096 * 4096 + p.val % 4096) * 2 + c.val = p.val * 2 + c.val
    omega)

theorem fold_two {α : Type} (f : α → α → α) [Std.Commutative f] [Std.Associative f] (b : α) (g : Fin 2 → α) :
    (Finset.univ : Finset (Fin 2)).fold f b g = f (g 0) (f (g 1) b) := by
  rw [show (Finset.univ : Finset (Fin 2)) = {0, 1} from rfl, Finset.fold_insert (by decide), Finset.fold_singleton]

/-- A reduction over the two outcomes of a pair. -/
theorem reduce_pair {α : Type} (f : α → α → α) [Std.Commutative f] [Std.Associative f] (x : S16777216x2.Idx → α) (i : S_.Idx → α)
    (p : Fin 16777216) :
    Host.reduce f x i reducesTo_S16777216x2_S16777216_d1 h_S_ (ix1 p)
      = f (x (ix2 p 0)) (f (x (ix2 p 1)) (i (Shape.Idx.first h_S_))) := by
  have hr : S16777216x2.Reduces [1] S16777216 := by decide
  rw [Host.reduce_eq_fold_single f x i reducesTo_S16777216x2_S16777216_d1 hr h_S_ (ix1 p)]
  have hl (k : Fin 2) : hr.lift (ix1 p) k = ix2 p k := by
    funext a
    match a with
    | ⟨0, _⟩ => rfl
    | ⟨1, _⟩ => rfl
  refine (fold_two f _ fun k => x (hr.lift (ix1 p) k)).trans ?_
  rw [hl, hl]

instance : Std.Commutative (FloatOps.maximumf (F := Ideal) (φ := .f32)) := ⟨fun x y => max_comm (α := EReal) x y⟩
instance : Std.Associative (FloatOps.maximumf (F := Ideal) (φ := .f32)) := ⟨fun x y z => max_assoc (α := EReal) x y z⟩

theorem low_word : Ideal.ofBits .f32 0xFF800000#32 = ⊥ := by
  simp [Ideal.ofBits, Ideal.ieee]

/-- The larger of a pair's scores. -/
theorem largest_at (S : FVec Ideal S16777216x2 .f32) (p : Fin 16777216) (c : Fin 2) :
    broadcastInDim S16777216x2 ![0, 1] bcast_S16777216x1_S16777216x2_0_1 (broadcastInDim S16777216x1 ![0] bcast_S16777216_S16777216x1_0
      (Host.reduce FloatOps.maximumf S (constant S_ .f32 0xFF800000#32) reducesTo_S16777216x2_S16777216_d1 h_S_)) (ix2 p c)
      = max (α := EReal) (S (ix2 p 0)) (S (ix2 p 1)) := by
  rw [broadcastInDim_apply _ _ _ (ix2 p c) (ix2 p 0) (by intro a; match a with | ⟨0, _⟩ => rfl | ⟨1, _⟩ => rfl),
    broadcastInDim_apply _ _ _ (ix2 p 0) (ix1 p) (by intro a; match a with | ⟨0, _⟩ => rfl), reduce_pair]
  show max (α := EReal) _ (max _ (Ideal.ofBits .f32 0xFF800000#32)) = _
  rw [low_word, max_bot_right]

/-- One if the second score is larger, else zero. -/
def pick (s0 s1 : EReal) : BitVec 32 := if s0 < s1 then 1#32 else 0#32

theorem oeq_word (x y : EReal) : Ideal.cmp .oeq x y = if x = y then 1#1 else 0#1 := by
  by_cases h : x = y
  · rw [if_pos h]; show BitVec.ofBool (decide (x = y)) = _; rw [decide_eq_true h]; rfl
  · rw [if_neg h]; show BitVec.ofBool (decide (x = y)) = _; rw [decide_eq_false h]; rfl

/-- The first index at which the larger of two scores is attained. -/
theorem first_index (s0 s1 : EReal) :
    IntOp.minsi (Scalar.select (Ideal.cmp .oeq s0 (max s0 s1)) (BitVec.ofNat 32 (0 : Fin 2).val) 2#32)
        (IntOp.minsi (Scalar.select (Ideal.cmp .oeq s1 (max s0 s1)) (BitVec.ofNat 32 (1 : Fin 2).val) 2#32) 2147483647#32)
      = pick s0 s1 := by
  unfold pick
  rw [oeq_word, oeq_word]
  by_cases h : s0 < s1
  · rw [if_pos h, max_eq_right h.le, if_neg h.ne, if_pos rfl]
    decide +kernel
  · rw [if_neg h, max_eq_left (not_lt.1 h), if_pos rfl]
    by_cases g : s1 = s0
    · rw [if_pos g]; decide +kernel
    · rw [if_neg g]; decide +kernel

theorem candidate_at (S B : FVec Ideal S16777216x2 .f32) (p : Fin 16777216) (c : Fin 2) :
    select (cmpf .oeq S B) (iotaInDim S16777216x2 32 1)
        (broadcastInDim S16777216x2 ![] bcast_S_S16777216x2 (id (constantI S_ 32 2#32))) (ix2 p c)
      = Scalar.select (Ideal.cmp .oeq (S (ix2 p c)) (B (ix2 p c))) (BitVec.ofNat 32 c.val) 2#32 := rfl

/-- The larger score of each pair, at both of the pair's places. -/
def largest (S : FVec Ideal S16777216x2 .f32) : FVec Ideal S16777216x2 .f32 :=
  broadcastInDim S16777216x2 ![0, 1] bcast_S16777216x1_S16777216x2_0_1 (broadcastInDim S16777216x1 ![0] bcast_S16777216_S16777216x1_0
    (Host.reduce FloatOps.maximumf S (constant S_ .f32 0xFF800000#32) reducesTo_S16777216x2_S16777216_d1 h_S_))

/-- Each pair's index of the larger score, laid out as a matrix. -/
def chosen (S B : FVec Ideal S16777216x2 .f32) : IVec S4096x4096 32 :=
  shapeCast S4096x4096 (Host.reduce IntOp.minsi
    (select (cmpf .oeq S B) (iotaInDim S16777216x2 32 1)
      (broadcastInDim S16777216x2 ![] bcast_S_S16777216x2 (id (constantI S_ 32 2#32))))
    (constantI S_ 32 2147483647#32) reducesTo_S16777216x2_S16777216_d1 h_S_) shapeCasts_S16777216_S4096x4096

theorem sample_eq : res_main_v207 V = chosen (res_main_v199 V) (largest (res_main_v199 V)) := rfl

theorem chosen_at (S B : FVec Ideal S16777216x2 .f32) (r c : Fin 4096) (p : Fin 16777216) (hp : p.val = 4096 * r.val + c.val)
    (h0 : B (ix2 p 0) = max (α := EReal) (S (ix2 p 0)) (S (ix2 p 1)))
    (h1 : B (ix2 p 1) = max (α := EReal) (S (ix2 p 0)) (S (ix2 p 1))) :
    chosen S B (ix2 r c) = pick (S (ix2 p 0)) (S (ix2 p 1)) := by
  unfold chosen
  rw [shapeCast_apply _ _ (ix2 r c) (ix1 p)
    (by rw [Shape.rowMajor_val_two, Shape.rowMajor_val_one]; show p.val = r.val * 4096 + c.val; omega), reduce_pair,
    candidate_at, candidate_at, h0, h1]
  exact first_index _ _

/-- The sample before mirroring, at row `r` and column `c`. -/
theorem sample_at (r c : Fin 4096) (p : Fin 16777216) (hp : p.val = 4096 * r.val + c.val) :
    res_main_v207 V (ix2 r c) = pick (res_main_v199 V (ix2 p 0)) (res_main_v199 V (ix2 p 1)) := by
  rw [sample_eq]
  exact chosen_at _ _ r c p hp (largest_at _ p 0) (largest_at _ p 1)

/-- A matrix added to its mirror: `triu` and `triu` above the diagonal. -/
def mirror (D : IVec S4096x4096 32) : IVec S4096x4096 32 :=
  addi (select (cmpi .sge (addi (iotaInDim S4096x4096 32 0) (broadcastInDim S4096x4096 ![] bcast_S_S4096x4096 (constantI S_ 32 4294967295#32)))
      (iotaInDim S4096x4096 32 1)) (broadcastInDim S4096x4096 ![] bcast_S_S4096x4096 (constantI S_ 32 0#32)) D)
    (transpose S4096x4096 [1, 0] (select (cmpi .sge (addi (iotaInDim S4096x4096 32 0)
      (broadcastInDim S4096x4096 ![] bcast_S_S4096x4096 (constantI S_ 32 0#32))) (iotaInDim S4096x4096 32 1))
      (broadcastInDim S4096x4096 ![] bcast_S_S4096x4096 (constantI S_ 32 0#32)) D) transposes_S4096x4096_S4096x4096_1_0)

theorem sge_word (a b : BitVec 32) : IntOp.cmpi .sge a b = BitVec.ofBool (decide (b.toInt ≤ a.toInt)) := by
  rw [← BitVec.sle_eq_decide]
  rfl

theorem small_int (r : Nat) (h : r < 4096) : (BitVec.ofNat 32 r).toInt = r := by
  rw [BitVec.toInt_eq_toNat_of_lt (by rw [BitVec.toNat_ofNat]; omega), BitVec.toNat_ofNat, Nat.mod_eq_of_lt (by omega)]

/-- One less than a small word, as a signed number. -/
theorem pred_int (r : Nat) (h : r < 4096) : (BitVec.ofNat 32 r + 4294967295#32).toInt = (r : Int) - 1 := by
  rcases Nat.eq_zero_or_pos r with rfl | hr
  · decide
  · have e : BitVec.ofNat 32 r + 4294967295#32 = BitVec.ofNat 32 (r - 1) := by
      apply BitVec.eq_of_toNat_eq
      rw [BitVec.toNat_add, BitVec.toNat_ofNat, BitVec.toNat_ofNat, BitVec.toNat_ofNat]
      omega
    rw [e, small_int _ (by omega)]
    omega

theorem below (r c : Fin 4096) :
    IntOp.cmpi .sge (BitVec.ofNat 32 r.val + 4294967295#32) (BitVec.ofNat 32 c.val) = BitVec.ofBool (decide (c.val < r.val)) := by
  rw [sge_word, pred_int _ r.isLt, small_int _ c.isLt]
  exact congrArg BitVec.ofBool (decide_eq_decide.2 (by omega))

theorem onOrBelow (r c : Fin 4096) :
    IntOp.cmpi .sge (BitVec.ofNat 32 r.val + 0#32) (BitVec.ofNat 32 c.val) = BitVec.ofBool (decide (c.val ≤ r.val)) := by
  rw [BitVec.add_zero, sge_word, small_int _ r.isLt, small_int _ c.isLt]
  exact congrArg BitVec.ofBool (decide_eq_decide.2 (by omega))

theorem mirror_at (D : IVec S4096x4096 32) (r c : Fin 4096) :
    mirror D (ix2 r c) = if r.val ≤ c.val then D (ix2 r c) else D (ix2 c r) := by
  show Scalar.select (IntOp.cmpi .sge (BitVec.ofNat 32 r.val + 4294967295#32) (BitVec.ofNat 32 c.val)) 0#32 (D (ix2 r c))
    + transpose S4096x4096 [1, 0] _ _ (ix2 r c) = _
  rw [transpose_apply _ _ _ (ix2 r c) (ix2 c r) (by intro b; match b with | ⟨0, _⟩ => rfl | ⟨1, _⟩ => rfl)]
  show _ + Scalar.select (IntOp.cmpi .sge (BitVec.ofNat 32 c.val + 0#32) (BitVec.ofNat 32 r.val)) 0#32 (D (ix2 c r)) = _
  rw [below, onOrBelow]
  by_cases h : r.val ≤ c.val
  · rw [if_pos h, decide_eq_false (by omega), decide_eq_true h]
    exact BitVec.add_zero _
  · rw [if_neg h, decide_eq_true (by omega), decide_eq_false h]
    exact BitVec.zero_add _

end Cert.Proof.K
-- ==== Proof.Algebraic.lean ====
module

public import proofs.«01_k».proof.Proof.Frames
public import proofs.«01_k».proof.Proof.Cell
public import proofs.«01_k».proof.Proof.RefValue
public import Idealize.ShloMosaic.Lib.ReduceAll

@[expose] public section

noncomputable section

/-! The kernel's result and the reference's are the same array. -/

namespace Cert.Proof.K

open Idealize.ShloMosaic Idealize.SL.Sem
open Cert.KernelIdeal (S4096x4096x2 S4096x32x128x2 S4096x32x2x128 S4096x64x128)
open Cert.KernelIdeal.Gen (shapeCasts_S4096x4096x2_S4096x32x128x2 transposes_S4096x32x128x2_S4096x32x2x128_0_1_3_2
  shapeCasts_S4096x32x2x128_S4096x64x128)

/-- The host's arrangement of the weights: each outcome's weights in rows of 128 columns. -/
def arranged (A : S4096x4096x2.Idx → EReal) : S4096x64x128.Idx → EReal :=
  shapeCast S4096x64x128 (transpose S4096x32x2x128 [0, 1, 3, 2]
    (shapeCast S4096x32x128x2 A shapeCasts_S4096x4096x2_S4096x32x128x2) transposes_S4096x32x128x2_S4096x32x2x128_0_1_3_2)
    shapeCasts_S4096x32x2x128_S4096x64x128

theorem probs_eq (m : (ℓ : Loc Cert.KernelIdeal.nD Cert.KernelIdeal.τ Cert.KernelIdeal.sig) → Buf (Elt Ideal) ℓ)
    (c : Dev Cert.KernelIdeal.nD) :
    probs m c = arranged (m ((c.tc : Thread Cert.KernelIdeal.nD Cert.KernelIdeal.τ).loc Cert.KernelIdeal.main_arg0)) := rfl

theorem arranged_at (A : S4096x4096x2.Idx → EReal) (r c : Fin 4096) (k : Fin 2) (a : Fin 64) (b : Fin 128)
    (ha : a.val = 2 * (c.val / 128) + k.val) (hb : b.val = c.val % 128) :
    arranged A (ValueIdx.ix3 r a b) = A (ValueIdx.ix3 r c k) := by
  unfold arranged
  rw [shapeCast_apply _ _ (ValueIdx.ix3 r a b) (ValueIdx.ix4 r (⟨c.val / 128, by omega⟩ : Fin 32) k b) (by
      rw [Shape.rowMajor_val_four, Shape.rowMajor_val_three]
      show ((r.val * 32 + c.val / 128) * 2 + k.val) * 128 + b.val = (r.val * 64 + a.val) * 128 + b.val
      omega),
    transpose_apply _ _ _ _ (ValueIdx.ix4 r (⟨c.val / 128, by omega⟩ : Fin 32) b k)
      (by intro d; match d with | ⟨0, _⟩ => rfl | ⟨1, _⟩ => rfl | ⟨2, _⟩ => rfl | ⟨3, _⟩ => rfl)]
  exact shapeCast_apply _ _ _ _ (by
    rw [Shape.rowMajor_val_three, Shape.rowMajor_val_four]
    show (r.val * 4096 + c.val) * 2 + k.val = ((r.val * 32 + c.val / 128) * 128 + b.val) * 2 + k.val
    omega)

/-- The kernel's entry is the outcome of the larger score. -/
theorem cellAt_pick (A : S4096x4096x2.Idx → EReal) (hA : ∀ i, 0 ≤ A i) (r c : Fin 4096) :
    cellAt (F := Ideal) (arranged A) r.val c.val
      = pick (score (A (ValueIdx.ix3 r c 0)) (bits (BitVec.ofNat 32 (8192 * r.val + 2 * c.val + 42))))
          (score (A (ValueIdx.ix3 r c 1)) (bits (BitVec.ofNat 32 (8192 * r.val + 2 * c.val + 43)))) := by
  have e0 := arranged_at A r c 0 (Fin.ofNat 64 (2 * (c.val / 128))) (Fin.ofNat 128 c.val)
    (by show 2 * (c.val / 128) % 64 = 2 * (c.val / 128) + 0; omega) rfl
  have e1 := arranged_at A r c 1 (Fin.ofNat 64 (2 * (c.val / 128) + 1)) (Fin.ofNat 128 c.val)
    (by show (2 * (c.val / 128) + 1) % 64 = 2 * (c.val / 128) + 1; omega) rfl
  have er : Fin.ofNat 4096 r.val = r := Fin.ext (Nat.mod_eq_of_lt r.isLt)
  unfold cellAt
  rw [er]
  refine (congrArg₂ (cell (F := Ideal) _ _) e0 e1).trans ?_
  exact cell_ideal _ _ _ _ (hA _) (hA _)

/-- The reference's entry is the same choice. -/
theorem sample_pick (V : Valuation Cert.ReferenceIdeal.τ Cert.ReferenceIdeal.sig (Elt Ideal)) (A : S4096x4096x2.Idx → EReal)
    (h : V (Proc.devRef .tc Cert.ReferenceIdeal.main_arg0) = A) (r c : Fin 4096) :
    Cert.ReferenceIdeal.Value.res_main_v207 V (ValueIdx.ix2 r c)
      = pick (score (A (ValueIdx.ix3 r c 0)) (bits (BitVec.ofNat 32 (8192 * r.val + 2 * c.val + 42))))
          (score (A (ValueIdx.ix3 r c 1)) (bits (BitVec.ofNat 32 (8192 * r.val + 2 * c.val + 43)))) := by
  have hr := r.isLt
  have hc := c.isLt
  rw [sample_at V r c ⟨4096 * r.val + c.val, by omega⟩ rfl, score_at, score_at, h]
  have er : (⟨(4096 * r.val + c.val) / 4096, by omega⟩ : Fin 4096) = r := Fin.ext (by show (4096 * r.val + c.val) / 4096 = r.val; omega)
  have ec : (⟨(4096 * r.val + c.val) % 4096, by omega⟩ : Fin 4096) = c := Fin.ext (by show (4096 * r.val + c.val) % 4096 = c.val; omega)
  have k0 : BitVec.ofNat 32 (2 * (4096 * r.val + c.val) + (0 : Fin 2).val) + 42#32 = BitVec.ofNat 32 (8192 * r.val + 2 * c.val + 42) := by
    rw [← BitVec.ofNat_add]; exact congrArg _ (by show 2 * (4096 * r.val + c.val) + 0 + 42 = _; omega)
  have k1 : BitVec.ofNat 32 (2 * (4096 * r.val + c.val) + (1 : Fin 2).val) + 42#32 = BitVec.ofNat 32 (8192 * r.val + 2 * c.val + 43) := by
    rw [← BitVec.ofNat_add]; exact congrArg _ (by show 2 * (4096 * r.val + c.val) + 1 + 42 = _; omega)
  rw [k0, k1, er, ec]

theorem entries_agree (V : Valuation Cert.ReferenceIdeal.τ Cert.ReferenceIdeal.sig (Elt Ideal)) (A : S4096x4096x2.Idx → EReal)
    (h : V (Proc.devRef .tc Cert.ReferenceIdeal.main_arg0) = A) (hA : ∀ i, 0 ≤ A i) (r c : Fin 4096) :
    mirror (Cert.ReferenceIdeal.Value.res_main_v207 V) (ValueIdx.ix2 r c) = symAt (F := Ideal) (arranged A) r.val c.val := by
  rw [mirror_at, sample_pick V A h, sample_pick V A h, ← cellAt_pick A hA, ← cellAt_pick A hA]
  rfl

/-- Mirrored, the two are the same array. -/
theorem results_agree (V : Valuation Cert.ReferenceIdeal.τ Cert.ReferenceIdeal.sig (Elt Ideal)) (A : S4096x4096x2.Idx → EReal)
    (h : V (Proc.devRef .tc Cert.ReferenceIdeal.main_arg0) = A) (hA : ∀ i, 0 ≤ A i) :
    mirror (Cert.ReferenceIdeal.Value.res_main_v207 V)
      = fun y : Cert.KernelIdeal.S4096x4096.Idx => symAt (F := Ideal) (arranged A) (y 0).val (y 1).val := by
  funext y
  have hy : y = ValueIdx.ix2 (y 0) (y 1) := by
    funext a
    match a with
    | ⟨0, _⟩ => rfl
    | ⟨1, _⟩ => rfl
  exact (congrArg _ hy).trans (entries_agree V A h hA (y 0) (y 1))

/-- What the precondition says of each weight. -/
theorem weight_nonneg (A : S4096x4096x2.Idx → EReal) (h : Cert.Pre_nonneg.fn (F := Ideal) A = fun _ => 1#1) (i : S4096x4096x2.Idx) :
    0 ≤ A i := by
  haveI : Subsingleton Cert.Pre_nonneg.S_.Idx := ⟨fun a b => funext fun k => k.elim0⟩
  have e := Host.reduce_andi_all _ _ _ _ ValueIdx.ix0 (congrFun h ValueIdx.ix0) i
  have e' : BitVec.ofBool (decide (Ideal.ofBits .f32 0x00000000#32 ≤ A i)) = 1#1 := e
  have z : Ideal.ofBits .f32 0x00000000#32 = 0 := by simp [Ideal.ofBits, Ideal.ieee]
  rw [z] at e'
  by_contra hn
  rw [decide_eq_false hn] at e'
  exact absurd e' (by decide)

end Cert.Proof.K

namespace Cert.Proof

open Idealize.ShloMosaic Idealize.SL.Sem

theorem algebraic : Cert.algebraic_KernelIdeal_ReferenceIdeal_pre_nonneg := fun m g m' g' hpre hin => by
  refine ⟨fun c => fun y : Cert.KernelIdeal.S4096x4096.Idx => K.symAt (F := Ideal) (K.arranged
    (m ((c.tc : Thread Cert.KernelIdeal.nD Cert.KernelIdeal.τ).loc Cert.KernelIdeal.main_arg0))) (y 0).val (y 1).val, ?_, ?_⟩
  · exact (θ_run _ _ _).mono (fun r h c => ⟨(h.1 c).1.trans (by rw [K.probs_eq]), (h.1 c).2⟩) (K.run_value (F := Ideal) m g)
  · exact (θ_run _ _ _).mono (fun r h c => ⟨(h c).1.trans (K.results_agree _ _ (hin c) (K.weight_nonneg _ (hpre c))), (h c).2⟩)
      (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_nonneg
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Pre_nonneg.Gen.facts, frame_kernel, frame_ideal, frame_ideal_nonneg, frame_reference, frame_reference_nonneg, trivial, algebraic⟩

end Cert.Proof

end
